-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![1024, 2048]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 2048]⟩ ⟨2, ![512, 2048]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S256x2048 : Shape := ⟨2, ![256, 2048]⟩
abbrev S512x1024 : Shape := ⟨2, ![512, 1024]⟩
abbrev S256x1024 : Shape := ⟨2, ![256, 1024]⟩
abbrev S512x128 : Shape := ⟨2, ![512, 128]⟩
abbrev S256x128 : Shape := ⟨2, ![256, 128]⟩
abbrev S5 : Shape := ⟨1, ![5]⟩
abbrev S_ : Shape := ⟨0, ![]⟩
abbrev S512x256 : Shape := ⟨2, ![512, 256]⟩
abbrev S1 : Shape := ⟨1, ![1]⟩
abbrev S256x256 : Shape := ⟨2, ![256, 256]⟩

abbrev nBuf : Space → Nat
  | .hbm => 3
  | .vmem => 9
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S256x2048, .f32⟩
  | .local _ .vmem, ⟨0, _⟩ => ⟨S512x512, .f32⟩
  | .local _ .vmem, ⟨1, _⟩ => ⟨S512x2048, .f32⟩
  | .local _ .vmem, ⟨2, _⟩ => ⟨S256x2048, .f32⟩
  | .local _ .vmem, ⟨3, _⟩ => ⟨S512x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S512x128, .f32⟩
  | .local _ .vmem, ⟨8, _⟩ => ⟨S256x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_4 : BitVec 32 := 2#32
  let v8 : BitVec 32 := Scalar.muli v7 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c1_i32_10 : BitVec 32 := 1#32
  let v15 : BitVec 32 := Scalar.muli v12 c1_i32_10
  let v16 : BitVec 32 := Scalar.addi v14 v15
  v16.toNat
def k0_cond1 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v17 : BitVec 1 := Scalar.cmpi .eq v5 c0_i32_12
  let v18 : BitVec 32 := Scalar.extui v17
  let c0_i32_13 : BitVec 32 := 0#32
  let v19 : BitVec 1 := Scalar.cmpi .ne v18 c0_i32_13
  v19

def k0_off1 (d0 : Dev nD) : Fin 2 → Nat :=
  let c1_i32_21 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v31 : BitVec 32 := Scalar.subi c1_i32_21 v2
  let c256_i32 : BitVec 32 := 256#32
  let v32 : BitVec 32 := Scalar.muli v31 c256_i32
  let c0_i32_30 : BitVec 32 := 0#32
  ![v32.toNat, 0]
def k0_dev3 (d0 : Dev nD) : Nat :=
  let c0_i32_26 : BitVec 32 := 0#32
  let c1_i32_22 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v33 : BitVec 32 := Scalar.subi c1_i32_22 v2
  let c2_i32_25 : BitVec 32 := 2#32
  let v34 : BitVec 32 := Scalar.muli v33 c2_i32_25
  let v35 : BitVec 32 := Scalar.addi c0_i32_26 v34
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_27 : BitVec 32 := 1#32
  let v36 : BitVec 32 := Scalar.muli v5 c1_i32_27
  let v37 : BitVec 32 := Scalar.addi v35 v36
  v37.toNat
def k0_off2 (d0 : Dev nD) : Fin 2 → Nat :=
  let c1_i32_37 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v52 : BitVec 32 := Scalar.subi c1_i32_37 v2
  let c256_i32_38 : BitVec 32 := 256#32
  let v53 : BitVec 32 := Scalar.muli v52 c256_i32_38
  let c256_i32_47 : BitVec 32 := 256#32
  ![v53.toNat, 256]
def k0_dev4 (d0 : Dev nD) : Nat :=
  let c0_i32_43 : BitVec 32 := 0#32
  let c1_i32_39 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v54 : BitVec 32 := Scalar.subi c1_i32_39 v2
  let c2_i32_42 : BitVec 32 := 2#32
  let v55 : BitVec 32 := Scalar.muli v54 c2_i32_42
  let v56 : BitVec 32 := Scalar.addi c0_i32_43 v55
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v57 : BitVec 32 := Scalar.muli v5 c1_i32_44
  let v58 : BitVec 32 := Scalar.addi v56 v57
  v58.toNat
def k0_off3 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_56 : BitVec 32 := 256#32
  let v73 : BitVec 32 := Scalar.muli v2 c256_i32_56
  let v74 : Index := Scalar.indexCast v73
  let c0_57 : Index := 0#32
  ![v74.toNat, 0]
def k0_dev5 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_65 : BitVec 32 := 2#32
  let v82 : BitVec 32 := Scalar.muli v2 c2_i32_65
  let v83 : BitVec 32 := Scalar.addi c0_i32_66 v82
  let c1_i32_62 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v81 : BitVec 32 := Scalar.subi c1_i32_62 v5
  let c1_i32_67 : BitVec 32 := 1#32
  let v84 : BitVec 32 := Scalar.muli v81 c1_i32_67
  let v85 : BitVec 32 := Scalar.addi v83 v84
  v85.toNat
def k0_off4 (d0 : Dev nD) : Fin 2 → Nat :=
  let c1_i32_80 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v101 : BitVec 32 := Scalar.subi c1_i32_80 v2
  let c256_i32_81 : BitVec 32 := 256#32
  let v102 : BitVec 32 := Scalar.muli v101 c256_i32_81
  let c512_i32_89 : BitVec 32 := 512#32
  ![v102.toNat, 512]
def k0_dev6 (d0 : Dev nD) : Nat :=
  let c0_i32_86 : BitVec 32 := 0#32
  let c1_i32_82 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v103 : BitVec 32 := Scalar.subi c1_i32_82 v2
  let c2_i32_85 : BitVec 32 := 2#32
  let v104 : BitVec 32 := Scalar.muli v103 c2_i32_85
  let v105 : BitVec 32 := Scalar.addi c0_i32_86 v104
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_87 : BitVec 32 := 1#32
  let v106 : BitVec 32 := Scalar.muli v5 c1_i32_87
  let v107 : BitVec 32 := Scalar.addi v105 v106
  v107.toNat
def k0_off5 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_98 : BitVec 32 := 256#32
  let v122 : BitVec 32 := Scalar.muli v2 c256_i32_98
  let v123 : Index := Scalar.indexCast v122
  let c256_99 : Index := 256#32
  ![v123.toNat, 256]
def k0_dev7 (d0 : Dev nD) : Nat :=
  let c0_i32_108 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_107 : BitVec 32 := 2#32
  let v131 : BitVec 32 := Scalar.muli v2 c2_i32_107
  let v132 : BitVec 32 := Scalar.addi c0_i32_108 v131
  let c1_i32_104 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v130 : BitVec 32 := Scalar.subi c1_i32_104 v5
  let c1_i32_109 : BitVec 32 := 1#32
  let v133 : BitVec 32 := Scalar.muli v130 c1_i32_109
  let v134 : BitVec 32 := Scalar.addi v132 v133
  v134.toNat
def k0_off6 (d0 : Dev nD) : Fin 2 → Nat :=
  let c1_i32_122 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v150 : BitVec 32 := Scalar.subi c1_i32_122 v2
  let c256_i32_123 : BitVec 32 := 256#32
  let v151 : BitVec 32 := Scalar.muli v150 c256_i32_123
  let c768_i32_130 : BitVec 32 := 768#32
  ![v151.toNat, 768]
def k0_dev8 (d0 : Dev nD) : Nat :=
  let c0_i32_127 : BitVec 32 := 0#32
  let c1_i32_124 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v152 : BitVec 32 := Scalar.subi c1_i32_124 v2
  let c2_i32_126 : BitVec 32 := 2#32
  let v153 : BitVec 32 := Scalar.muli v152 c2_i32_126
  let v154 : BitVec 32 := Scalar.addi c0_i32_127 v153
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_128 : BitVec 32 := 1#32
  let v155 : BitVec 32 := Scalar.muli v5 c1_i32_128
  let v156 : BitVec 32 := Scalar.addi v154 v155
  v156.toNat
def k0_off7 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_139 : BitVec 32 := 256#32
  let v171 : BitVec 32 := Scalar.muli v2 c256_i32_139
  let v172 : Index := Scalar.indexCast v171
  let c512_140 : Index := 512#32
  ![v172.toNat, 512]
def k0_dev9 (d0 : Dev nD) : Nat :=
  let c0_i32_149 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_148 : BitVec 32 := 2#32
  let v180 : BitVec 32 := Scalar.muli v2 c2_i32_148
  let v181 : BitVec 32 := Scalar.addi c0_i32_149 v180
  let c1_i32_145 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v179 : BitVec 32 := Scalar.subi c1_i32_145 v5
  let c1_i32_150 : BitVec 32 := 1#32
  let v182 : BitVec 32 := Scalar.muli v179 c1_i32_150
  let v183 : BitVec 32 := Scalar.addi v181 v182
  v183.toNat
def k0_off8 (d0 : Dev nD) : Fin 2 → Nat :=
  let c1_i32_176 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v210 : BitVec 32 := Scalar.subi c1_i32_176 v2
  let c256_i32_177 : BitVec 32 := 256#32
  let v211 : BitVec 32 := Scalar.muli v210 c256_i32_177
  let c896_i32_184 : BitVec 32 := 896#32
  ![v211.toNat, 896]
def k0_dev10 (d0 : Dev nD) : Nat :=
  let c0_i32_181 : BitVec 32 := 0#32
  let c1_i32_178 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v212 : BitVec 32 := Scalar.subi c1_i32_178 v2
  let c2_i32_180 : BitVec 32 := 2#32
  let v213 : BitVec 32 := Scalar.muli v212 c2_i32_180
  let v214 : BitVec 32 := Scalar.addi c0_i32_181 v213
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_182 : BitVec 32 := 1#32
  let v215 : BitVec 32 := Scalar.muli v5 c1_i32_182
  let v216 : BitVec 32 := Scalar.addi v214 v215
  v216.toNat
def k0_off9 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_193 : BitVec 32 := 256#32
  let v231 : BitVec 32 := Scalar.muli v2 c256_i32_193
  let v232 : Index := Scalar.indexCast v231
  let c768_194 : Index := 768#32
  ![v232.toNat, 768]
def k0_dev11 (d0 : Dev nD) : Nat :=
  let c0_i32_203 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_202 : BitVec 32 := 2#32
  let v240 : BitVec 32 := Scalar.muli v2 c2_i32_202
  let v241 : BitVec 32 := Scalar.addi c0_i32_203 v240
  let c1_i32_199 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v239 : BitVec 32 := Scalar.subi c1_i32_199 v5
  let c1_i32_204 : BitVec 32 := 1#32
  let v242 : BitVec 32 := Scalar.muli v239 c1_i32_204
  let v243 : BitVec 32 := Scalar.addi v241 v242
  v243.toNat
def k0_off10 (d0 : Dev nD) : Fin 2 → Nat :=
  let c1_i32_230 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v270 : BitVec 32 := Scalar.subi c1_i32_230 v2
  let c256_i32_231 : BitVec 32 := 256#32
  let v271 : BitVec 32 := Scalar.muli v270 c256_i32_231
  let c0_i32_236 : BitVec 32 := 0#32
  ![v271.toNat, 0]
def k0_dev12 (d0 : Dev nD) : Nat :=
  let c0_i32_234 : BitVec 32 := 0#32
  let c1_i32_232 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v272 : BitVec 32 := Scalar.subi c1_i32_232 v2
  let c2_i32_233 : BitVec 32 := 2#32
  let v273 : BitVec 32 := Scalar.muli v272 c2_i32_233
  let v274 : BitVec 32 := Scalar.addi c0_i32_234 v273
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_235 : BitVec 32 := 1#32
  let v275 : BitVec 32 := Scalar.muli v5 c1_i32_235
  let v276 : BitVec 32 := Scalar.addi v274 v275
  v276.toNat
def k0_off11 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_245 : BitVec 32 := 256#32
  let v286 : BitVec 32 := Scalar.muli v2 c256_i32_245
  let v287 : Index := Scalar.indexCast v286
  let c896_246 : Index := 896#32
  ![v287.toNat, 896]
def k0_off12 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_281 : BitVec 32 := 256#32
  let v319 : BitVec 32 := Scalar.muli v2 c256_i32_281
  let v320 : Index := Scalar.indexCast v319
  let c0_282 : Index := 0#32
  ![v320.toNat, 0]
def k0_cond2 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_14 : BitVec 32 := 1#32
  let v20 : BitVec 1 := Scalar.cmpi .eq v5 c1_i32_14
  let v21 : BitVec 32 := Scalar.extui v20
  let c0_i32_15 : BitVec 32 := 0#32
  let v22 : BitVec 1 := Scalar.cmpi .ne v21 c0_i32_15
  v22

def k0_off13 (d0 : Dev nD) : Fin 2 → Nat :=
  let c1_i32_20 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v31 : BitVec 32 := Scalar.subi c1_i32_20 v2
  let c256_i32 : BitVec 32 := 256#32
  let v32 : BitVec 32 := Scalar.muli v31 c256_i32
  let c0_i32_29 : BitVec 32 := 0#32
  ![v32.toNat, 0]
def k0_dev13 (d0 : Dev nD) : Nat :=
  let c0_i32_25 : BitVec 32 := 0#32
  let c1_i32_21 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v33 : BitVec 32 := Scalar.subi c1_i32_21 v2
  let c2_i32_24 : BitVec 32 := 2#32
  let v34 : BitVec 32 := Scalar.muli v33 c2_i32_24
  let v35 : BitVec 32 := Scalar.addi c0_i32_25 v34
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_26 : BitVec 32 := 1#32
  let v36 : BitVec 32 := Scalar.muli v5 c1_i32_26
  let v37 : BitVec 32 := Scalar.addi v35 v36
  v37.toNat
def k0_off14 (d0 : Dev nD) : Fin 2 → Nat :=
  let c1_i32_35 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v52 : BitVec 32 := Scalar.subi c1_i32_35 v2
  let c256_i32_36 : BitVec 32 := 256#32
  let v53 : BitVec 32 := Scalar.muli v52 c256_i32_36
  let c256_i32_45 : BitVec 32 := 256#32
  ![v53.toNat, 256]
def k0_dev14 (d0 : Dev nD) : Nat :=
  let c0_i32_41 : BitVec 32 := 0#32
  let c1_i32_37 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v54 : BitVec 32 := Scalar.subi c1_i32_37 v2
  let c2_i32_40 : BitVec 32 := 2#32
  let v55 : BitVec 32 := Scalar.muli v54 c2_i32_40
  let v56 : BitVec 32 := Scalar.addi c0_i32_41 v55
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_42 : BitVec 32 := 1#32
  let v57 : BitVec 32 := Scalar.muli v5 c1_i32_42
  let v58 : BitVec 32 := Scalar.addi v56 v57
  v58.toNat
def k0_off15 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_54 : BitVec 32 := 256#32
  let v73 : BitVec 32 := Scalar.muli v2 c256_i32_54
  let v74 : Index := Scalar.indexCast v73
  let c0_55 : Index := 0#32
  ![v74.toNat, 0]
def k0_dev15 (d0 : Dev nD) : Nat :=
  let c0_i32_64 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_63 : BitVec 32 := 2#32
  let v82 : BitVec 32 := Scalar.muli v2 c2_i32_63
  let v83 : BitVec 32 := Scalar.addi c0_i32_64 v82
  let c1_i32_60 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v81 : BitVec 32 := Scalar.subi c1_i32_60 v5
  let c1_i32_65 : BitVec 32 := 1#32
  let v84 : BitVec 32 := Scalar.muli v81 c1_i32_65
  let v85 : BitVec 32 := Scalar.addi v83 v84
  v85.toNat
def k0_off16 (d0 : Dev nD) : Fin 2 → Nat :=
  let c1_i32_77 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v101 : BitVec 32 := Scalar.subi c1_i32_77 v2
  let c256_i32_78 : BitVec 32 := 256#32
  let v102 : BitVec 32 := Scalar.muli v101 c256_i32_78
  let c512_i32_86 : BitVec 32 := 512#32
  ![v102.toNat, 512]
def k0_dev16 (d0 : Dev nD) : Nat :=
  let c0_i32_83 : BitVec 32 := 0#32
  let c1_i32_79 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v103 : BitVec 32 := Scalar.subi c1_i32_79 v2
  let c2_i32_82 : BitVec 32 := 2#32
  let v104 : BitVec 32 := Scalar.muli v103 c2_i32_82
  let v105 : BitVec 32 := Scalar.addi c0_i32_83 v104
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v106 : BitVec 32 := Scalar.muli v5 c1_i32_84
  let v107 : BitVec 32 := Scalar.addi v105 v106
  v107.toNat
def k0_off17 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_95 : BitVec 32 := 256#32
  let v122 : BitVec 32 := Scalar.muli v2 c256_i32_95
  let v123 : Index := Scalar.indexCast v122
  let c256_96 : Index := 256#32
  ![v123.toNat, 256]
def k0_dev17 (d0 : Dev nD) : Nat :=
  let c0_i32_105 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_104 : BitVec 32 := 2#32
  let v131 : BitVec 32 := Scalar.muli v2 c2_i32_104
  let v132 : BitVec 32 := Scalar.addi c0_i32_105 v131
  let c1_i32_101 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v130 : BitVec 32 := Scalar.subi c1_i32_101 v5
  let c1_i32_106 : BitVec 32 := 1#32
  let v133 : BitVec 32 := Scalar.muli v130 c1_i32_106
  let v134 : BitVec 32 := Scalar.addi v132 v133
  v134.toNat
def k0_off18 (d0 : Dev nD) : Fin 2 → Nat :=
  let c1_i32_118 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v150 : BitVec 32 := Scalar.subi c1_i32_118 v2
  let c256_i32_119 : BitVec 32 := 256#32
  let v151 : BitVec 32 := Scalar.muli v150 c256_i32_119
  let c768_i32_126 : BitVec 32 := 768#32
  ![v151.toNat, 768]
def k0_dev18 (d0 : Dev nD) : Nat :=
  let c0_i32_123 : BitVec 32 := 0#32
  let c1_i32_120 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v152 : BitVec 32 := Scalar.subi c1_i32_120 v2
  let c2_i32_122 : BitVec 32 := 2#32
  let v153 : BitVec 32 := Scalar.muli v152 c2_i32_122
  let v154 : BitVec 32 := Scalar.addi c0_i32_123 v153
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_124 : BitVec 32 := 1#32
  let v155 : BitVec 32 := Scalar.muli v5 c1_i32_124
  let v156 : BitVec 32 := Scalar.addi v154 v155
  v156.toNat
def k0_off19 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_135 : BitVec 32 := 256#32
  let v171 : BitVec 32 := Scalar.muli v2 c256_i32_135
  let v172 : Index := Scalar.indexCast v171
  let c512_136 : Index := 512#32
  ![v172.toNat, 512]
def k0_dev19 (d0 : Dev nD) : Nat :=
  let c0_i32_145 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_144 : BitVec 32 := 2#32
  let v180 : BitVec 32 := Scalar.muli v2 c2_i32_144
  let v181 : BitVec 32 := Scalar.addi c0_i32_145 v180
  let c1_i32_141 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v179 : BitVec 32 := Scalar.subi c1_i32_141 v5
  let c1_i32_146 : BitVec 32 := 1#32
  let v182 : BitVec 32 := Scalar.muli v179 c1_i32_146
  let v183 : BitVec 32 := Scalar.addi v181 v182
  v183.toNat
def k0_off20 (d0 : Dev nD) : Fin 2 → Nat :=
  let c1_i32_172 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v210 : BitVec 32 := Scalar.subi c1_i32_172 v2
  let c256_i32_173 : BitVec 32 := 256#32
  let v211 : BitVec 32 := Scalar.muli v210 c256_i32_173
  let c896_i32_180 : BitVec 32 := 896#32
  ![v211.toNat, 896]
def k0_dev20 (d0 : Dev nD) : Nat :=
  let c0_i32_177 : BitVec 32 := 0#32
  let c1_i32_174 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v212 : BitVec 32 := Scalar.subi c1_i32_174 v2
  let c2_i32_176 : BitVec 32 := 2#32
  let v213 : BitVec 32 := Scalar.muli v212 c2_i32_176
  let v214 : BitVec 32 := Scalar.addi c0_i32_177 v213
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_178 : BitVec 32 := 1#32
  let v215 : BitVec 32 := Scalar.muli v5 c1_i32_178
  let v216 : BitVec 32 := Scalar.addi v214 v215
  v216.toNat
def k0_off21 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_189 : BitVec 32 := 256#32
  let v231 : BitVec 32 := Scalar.muli v2 c256_i32_189
  let v232 : Index := Scalar.indexCast v231
  let c768_190 : Index := 768#32
  ![v232.toNat, 768]
def k0_dev21 (d0 : Dev nD) : Nat :=
  let c0_i32_199 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_198 : BitVec 32 := 2#32
  let v240 : BitVec 32 := Scalar.muli v2 c2_i32_198
  let v241 : BitVec 32 := Scalar.addi c0_i32_199 v240
  let c1_i32_195 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v239 : BitVec 32 := Scalar.subi c1_i32_195 v5
  let c1_i32_200 : BitVec 32 := 1#32
  let v242 : BitVec 32 := Scalar.muli v239 c1_i32_200
  let v243 : BitVec 32 := Scalar.addi v241 v242
  v243.toNat
def k0_off22 (d0 : Dev nD) : Fin 2 → Nat :=
  let c1_i32_228 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v270 : BitVec 32 := Scalar.subi c1_i32_228 v2
  let c256_i32_229 : BitVec 32 := 256#32
  let v271 : BitVec 32 := Scalar.muli v270 c256_i32_229
  let c0_i32_234 : BitVec 32 := 0#32
  ![v271.toNat, 0]
def k0_dev22 (d0 : Dev nD) : Nat :=
  let c0_i32_232 : BitVec 32 := 0#32
  let c1_i32_230 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v272 : BitVec 32 := Scalar.subi c1_i32_230 v2
  let c2_i32_231 : BitVec 32 := 2#32
  let v273 : BitVec 32 := Scalar.muli v272 c2_i32_231
  let v274 : BitVec 32 := Scalar.addi c0_i32_232 v273
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_233 : BitVec 32 := 1#32
  let v275 : BitVec 32 := Scalar.muli v5 c1_i32_233
  let v276 : BitVec 32 := Scalar.addi v274 v275
  v276.toNat
def k0_off23 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_243 : BitVec 32 := 256#32
  let v286 : BitVec 32 := Scalar.muli v2 c256_i32_243
  let v287 : Index := Scalar.indexCast v286
  let c896_244 : Index := 896#32
  ![v287.toNat, 896]
def k0_off24 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_281 : BitVec 32 := 256#32
  let v319 : BitVec 32 := Scalar.muli v2 c256_i32_281
  let v320 : Index := Scalar.indexCast v319
  let c0_282 : Index := 0#32
  ![v320.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x512 : Shape := ⟨2, ![1024, 512]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x2048, .f32⟩
  | .hbm, ⟨2, _⟩ => ⟨S512x1024, .f32⟩
  | .hbm, ⟨3, _⟩ => ⟨S512x2048, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Steps.lean ====
/-
The body of the kernel as a sequence of a few kinds of step, and the two printed branches as that sequence.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.TwoAxis

open Cert.KernelIdeal Cert.KernelIdeal.Gen
open Idealize.ShloMosaic Idealize.ShloMosaic.TcCoe Idealize.SL.Sem

variable {F : FTy → Type} [FloatOps F]

/-- A rank-two buffer of 32-bit floats in the core's vector memory, `n` rows by `k` columns. -/
abbrev Mat (n k : ℕ) : Type := Memref sig .tc .vmem (⟨2, ![n, k]⟩ : Shape) .f32

abbrev xM : Mat 512 512 := Memref.whole cc0_stg0_0
abbrev dM : Mat 512 2048 := Memref.whole cc0_stg1_0
abbrev oM : Mat 256 2048 := Memref.whole cc0_stg2_0
abbrev pM : Mat 512 1024 := Memref.whole cc0_scratch0
abbrev xrM : Mat 256 1024 := Memref.whole cc0_scratch1
abbrev rM : Mat 256 1024 := Memref.whole cc0_scratch2
abbrev yrM : Mat 256 1024 := Memref.whole cc0_scratch3
abbrev peM : Mat 512 128 := Memref.whole cc0_scratch4
abbrev xoM : Mat 256 128 := Memref.whole cc0_scratch5

/-- The `i`-th of the kernel's own DMA semaphores. -/
abbrev dsem (i : ℕ) (h : i < 22 := by decide) : DmaSem sig := ⟨i + 3, by show i + 3 < 25; omega⟩

/-- The rectangle of `a` rows and `b` columns at offset `o`. -/
abbrev box {n k : ℕ} (o : Fin 2 → ℕ) (a b : ℕ) (h : ∀ i, o i + (![a, b] : Fin 2 → ℕ) i ≤ (⟨2, ![n, k]⟩ : Shape).size i) : Rect (⟨2, ![n, k]⟩ : Shape) :=
  Rect.unit (s := (⟨2, ![n, k]⟩ : Shape)) o ![a, b] h

/-- A rectangle with a literal offset inside the buffer. -/
theorem inb {n k a b r q : ℕ} (h0 : r + a ≤ n) (h1 : q + b ≤ k) :
    ∀ i, (![r, q] : Fin 2 → ℕ) i + (![a, b] : Fin 2 → ℕ) i ≤ (⟨2, ![n, k]⟩ : Shape).size i :=
  Rect.inb₂ h0 h1

theorem inb_of {n k a b r q : ℕ} {o : Fin 2 → ℕ} (ho : o = ![r, q]) (h0 : r + a ≤ n) (h1 : q + b ≤ k) :
    ∀ i, o i + (![a, b] : Fin 2 → ℕ) i ≤ (⟨2, ![n, k]⟩ : Shape).size i := by
  subst ho; exact inb h0 h1

theorem numel_pos {a b : ℕ} (ha : 0 < a) (hb : 0 < b) : 0 < (⟨2, ![a, b]⟩ : Shape).numel :=
  Shape.numel_pos (Fin.forall_fin_two.mpr ⟨ha, hb⟩)

abbrev Body (F : FTy → Type) : Type _ := Prog (TpuEff nD τ sig (Elt F) Λ₀ .tc) PUnit
abbrev Tile (F : FTy → Type) (a b : ℕ) : Type := Vec F (⟨2, ![a, b]⟩ : Shape) .f32

/-- An in-bounds fact of a rectangle of `a` rows and `b` columns at offset `o` of an `n` by `k` buffer. -/
abbrev Inb (n k : ℕ) (o : Fin 2 → ℕ) (a b : ℕ) : Prop := ∀ i, o i + (![a, b] : Fin 2 → ℕ) i ≤ (⟨2, ![n, k]⟩ : Shape).size i

/-- Load a rectangle. -/
abbrev ld {n k : ℕ} (p : Mat n k) (o : Fin 2 → ℕ) (a b : ℕ) (h : Inb n k o a b) (ha : 0 < a) (hb : 0 < b) :
    Prog (TpuEff nD τ sig (Elt F) Λ₀ .tc) (Tile F a b) :=
  Prog.lift (.load p (box (n := n) (k := k) o a b h).toLoadRect (View.loadsAt_vmem (numel_pos ha hb)))

/-- Store a rectangle. -/
abbrev st {n k : ℕ} (p : Mat n k) (o : Fin 2 → ℕ) (a b : ℕ) (h : Inb n k o a b) (ha : 0 < a) (hb : 0 < b) (v : Tile F a b) : Body F :=
  Prog.lift (.store p (box (n := n) (k := k) o a b h) v Finset.univ (View.stores_vmem_bits_univ (numel_pos ha hb) rfl) (.inl rfl))

/-- The rectangle of a buffer as a memref. -/
abbrev sub {n k : ℕ} (p : Mat n k) (o : Fin 2 → ℕ) (a b : ℕ) (h : Inb n k o a b) : Mat a b :=
  p.slice (box (n := n) (k := k) o a b h) (fun _ => rfl)

/-- Start sending `src` to `dst` of device `dev`. -/
abbrev send {a b : ℕ} (src dst : Mat a b) (dev : Dev nD) (sS sR : DmaSem sig) : Body F :=
  Prog.lift (.enqueueDma src (.remote (Dev.tc dev) dst (.dma sS)) (.dma sR) (View.wordExact_bits rfl) (View.wordExact_bits rfl) ⟨⟨rfl, Or.inl rfl⟩, trivial⟩)

/-- Wait for a transfer as large as `dst`. -/
abbrev waitFor {a b : ℕ} (s : DmaSem sig) (src dst : Mat a b) : Body F :=
  Prog.lift (.waitDma2 s src dst (View.wordExact_bits rfl) (View.wordExact_bits rfl))

/-- Multiply the activation shard by a chunk of columns of the other operand and keep the product in `p`. -/
def multiply {np kp : ℕ} (w : ℕ) (hw : 0 < w) (p : Mat np kp) (od op : Fin 2 → ℕ) (hd : Inb 512 2048 od 512 w) (hp : Inb np kp op 512 w)
    (pay : Tile F 512 512 → Tile F 512 w → Tile F 512 w) : Body F := do
  let a ← ld xM ![0, 0] 512 512 (inb (by decide) (by decide)) (by decide) (by decide)
  let b ← ld dM od 512 w hd (by decide) hw
  let _ ← ld (F := F) p op 512 w hp (by decide) hw
  st p op 512 w hp (by decide) hw (pay a b)

/-- Add the rows that arrived in `q` to the rows kept in `p` and keep the sum in `r`. -/
def reduce {np kp nq kq : ℕ} (w : ℕ) (hw : 0 < w) (p : Mat np kp) (q r : Mat nq kq) (ok oq : Fin 2 → ℕ)
    (hk : Inb np kp ok 256 w) (hq : Inb nq kq oq 256 w) (payr : Tile F 256 w → Tile F 256 w → Tile F 256 w) :
    Prog (TpuEff nD τ sig (Elt F) Λ₀ .tc) (Tile F 256 w × Tile F 256 w) := do
  let a ← ld p ok 256 w hk (by decide) hw
  let b ← ld q oq 256 w hq (by decide) hw
  let _ ← ld (F := F) r oq 256 w hq (by decide) hw
  st r oq 256 w hq (by decide) hw (payr a b)
  pure (a, b)

/-- Store a tile in the result (whose old values the program reads and drops). -/
def putOut (w : ℕ) (hw : 0 < w) (oo : Fin 2 → ℕ) (ho : Inb 256 2048 oo 256 w) (v : Tile F 256 w) : Body F := do
  let _ ← ld (F := F) oM oo 256 w ho (by decide) hw
  st oM oo 256 w ho (by decide) hw v

/-- Add the rows that arrived in `q` to the rows kept in `p` and store the sum in the result. -/
def reduceOut {np kp nq kq : ℕ} (w : ℕ) (hw : 0 < w) (p : Mat np kp) (q : Mat nq kq) (ok oq oo : Fin 2 → ℕ)
    (hk : Inb np kp ok 256 w) (hq : Inb nq kq oq 256 w) (ho : Inb 256 2048 oo 256 w)
    (pay : Tile F 256 w → Tile F 256 w → Tile F 256 w) : Body F := do
  let a ← ld p ok 256 w hk (by decide) hw
  let b ← ld q oq 256 w hq (by decide) hw
  putOut w hw oo ho (pay a b)

/-- Store the finished rows that arrived in `t` in the result. -/
def copyOut {nq kq : ℕ} (w : ℕ) (hw : 0 < w) (t : Mat nq kq) (oq oo : Fin 2 → ℕ) (hq : Inb nq kq oq 256 w) (ho : Inb 256 2048 oo 256 w) : Body F := do
  let a ← ld (F := F) t oq 256 w hq (by decide) hw
  putOut w hw oo ho a

/-! ### The chunks and the transfers -/

/-- How many columns the five chunks of partial products have, and where they start. -/
abbrev W : Fin 5 → ℕ := ![256, 256, 256, 128, 128]
abbrev OFF : Fin 5 → ℕ := ![0, 256, 512, 768, 896]
theorem off_le (k : Fin 5) : OFF k + W k ≤ 1024 := by revert k; decide
theorem w_pos (k : Fin 5) : 0 < W k := by revert k; decide

/-- What the kernel stores: the product, the sum kept to send on, and the sum stored in the result, chunk by chunk. -/
def payP : (k : Fin 5) → Tile F 512 512 → Tile F 512 (W k) → Tile F 512 (W k)
  | 0 => k0_pay1
  | 1 => k0_pay1
  | 2 => k0_pay1
  | 3 => k0_pay8
  | 4 => k0_pay8
def payR : (k : Fin 5) → Tile F 256 (W k) → Tile F 256 (W k) → Tile F 256 (W k)
  | 0 => k0_pay4
  | 1 => k0_pay4
  | 2 => k0_pay4
  | 3 => k0_pay13
  | 4 => k0_pay13
def payO : (k : Fin 5) → Tile F 256 (W k) → Tile F 256 (W k) → Tile F 256 (W k)
  | 0 => k0_pay3
  | 1 => k0_pay3
  | 2 => k0_pay3
  | 3 => k0_pay12
  | 4 => k0_pay12

/-- The ten transfers a device starts: partial products of the five chunks to its neighbour along the first axis, sums of
    the first four chunks to its neighbour along the second, and the extra product to the first neighbour. -/
inductive Tr where
  | x (k : Fin 5)
  | y (k : Fin 4)
  | e
  deriving DecidableEq

/-- Their semaphores at the sender and at the receiver. -/
def sS : Tr → DmaSem sig
  | .x k => ⟨k.val + 3, by show k.val + 3 < 25; omega⟩
  | .y k => ⟨k.val + 13, by show k.val + 13 < 25; omega⟩
  | .e => ⟨23, by decide⟩
def rS : Tr → DmaSem sig
  | .x k => ⟨k.val + 8, by show k.val + 8 < 25; omega⟩
  | .y k => ⟨k.val + 18, by show k.val + 18 < 25; omega⟩
  | .e => ⟨24, by decide⟩

/-- How many columns a transfer moves. -/
abbrev tw : Tr → ℕ
  | .x k => W k
  | .y k => W k.castSucc
  | .e => 128

theorem half_le (c : Dev nD) : 256 * (c.val / 2) ≤ 256 := by have := c.isLt; have h : nD = 4 := rfl; omega

/-- The first of the rows device `c` sends away and of the rows it keeps. -/
abbrev sr (c : Dev nD) : ℕ := 256 - 256 * (c.val / 2)
abbrev kr (c : Dev nD) : ℕ := 256 * (c.val / 2)
theorem sr_le (c : Dev nD) : sr c ≤ 256 := Nat.sub_le _ _
theorem kr_le (c : Dev nD) : kr c ≤ 256 := half_le c

/-- A chunk of one of the buffers of 256 rows. -/
abbrev chunk (q : Mat 256 1024) (k : Fin 5) : Mat 256 (W k) := sub q ![0, OFF k] 256 (W k) (inb (by omega) (off_le k))
/-- Half of the rows of a chunk of products. -/
abbrev half (o : ℕ) (ho : o ≤ 256) (k : Fin 5) : Mat 256 (W k) := sub pM ![o, OFF k] 256 (W k) (inb (by omega) (off_le k))
abbrev halfE (o : ℕ) (ho : o ≤ 256) : Mat 256 128 := sub peM ![o, 0] 256 128 (inb (by omega) (by omega))

/-- What a transfer of device `c` reads, and where it writes at the neighbour. -/
def src (c : Dev nD) : (t : Tr) → Mat 256 (tw t)
  | .x k => half (sr c) (sr_le c) k
  | .y k => chunk rM k.castSucc
  | .e => halfE (sr c) (sr_le c)
def dst : (t : Tr) → Mat 256 (tw t)
  | .x k => chunk xrM k
  | .y k => chunk yrM k.castSucc
  | .e => xoM

/-- The neighbours of a device. -/
def xpeer (c : Dev nD) : Dev nD := ⟨(c.val % 2 + 2) - 2 * (c.val / 2), by have h : nD = 4 := rfl; have := c.isLt; omega⟩
def ypeer (c : Dev nD) : Dev nD := ⟨(2 * (c.val / 2) + 1) - c.val % 2, by have h : nD = 4 := rfl; have := c.isLt; omega⟩
def peer : Tr → Dev nD → Dev nD
  | .x _ => xpeer
  | .y _ => ypeer
  | .e => xpeer

/-- Start transfer `t`; wait for the `t` arriving; wait for the own `t` to have left. -/
def sendT (c : Dev nD) (t : Tr) : Body F := send (src c t) (dst t) (peer t c) (sS t) (rS t)
def recvT (c : Dev nD) (t : Tr) : Body F := waitFor (rS t) (src c t) (dst t)
def sentT (c : Dev nD) (t : Tr) : Body F := waitFor (sS t) (dst t) (src c t)

def stepA (c : Dev nD) (col : ℕ) (hc : col ≤ 1024) (k : Fin 5) : Body F := do
  multiply (W k) (w_pos k) pM ![0, col + OFF k] ![0, OFF k] (inb (by omega) (by have := off_le k; omega)) (inb (by omega) (off_le k)) (payP k)
  sendT c (.x k)

def stepB (c : Dev nD) (col : ℕ) (hc : col ≤ 1024) (k : Fin 4) : Body F := do
  recvT c (.x k.castSucc)
  let ab ← reduce (F := F) (W k.castSucc) (w_pos _) pM xrM rM ![kr c, OFF k.castSucc] ![0, OFF k.castSucc]
    (inb (by have := kr_le c; omega) (off_le _)) (inb (by omega) (off_le _)) (payR k.castSucc)
  sendT c (.y k)
  putOut (W k.castSucc) (w_pos _) ![0, col + OFF k.castSucc] (inb (by omega) (by have := off_le k.castSucc; omega)) (payO k.castSucc ab.1 ab.2)

def stepC (c : Dev nD) (oc : ℕ) (ho : oc ≤ 1024) (k : Fin 4) : Body F := do
  recvT c (.y k)
  copyOut (W k.castSucc) (w_pos _) yrM ![0, OFF k.castSucc] ![0, oc + OFF k.castSucc] (inb (by omega) (off_le _)) (inb (by omega) (by have := off_le k.castSucc; omega))

def stepE (c : Dev nD) (oc : ℕ) (ho : oc ≤ 1024) : Body F := do
  multiply 128 (by decide) peM ![0, oc + 896] ![0, 0] (inb (by omega) (by omega)) (inb (by omega) (by omega)) k0_pay8
  sendT c .e

def lastB (c : Dev nD) (col : ℕ) (hc : col ≤ 1024) : Body F := do
  recvT c (.x 4)
  reduceOut (F := F) (W 4) (w_pos 4) pM xrM ![kr c, OFF 4] ![0, OFF 4] ![0, col + OFF 4]
    (inb (by have := kr_le c; omega) (off_le _)) (inb (by omega) (off_le _)) (inb (by omega) (by have := off_le 4; omega)) (payO 4)

def lastE (c : Dev nD) (oc : ℕ) (ho : oc ≤ 1024) : Body F := do
  recvT c .e
  reduceOut (F := F) 128 (by decide) peM xoM ![kr c, 0] ![0, 0] ![0, oc + 896]
    (inb (by have := kr_le c; omega) (by omega)) (inb (by omega) (by omega)) (inb (by omega) (by omega)) k0_pay12

/-- The steps after the handshake: the device reduces the columns from `col` on with its first neighbour, and gets the
    others, from `oc` on, from its second. -/
def steps (c : Dev nD) (col oc : ℕ) (hc : col ≤ 1024) (ho : oc ≤ 1024) : Body F := do
  stepA c col hc 0
  stepA c col hc 1
  stepB c col hc 0
  stepA c col hc 2
  stepB c col hc 1
  stepA c col hc 3
  stepB c col hc 2
  stepC c oc ho 0
  stepA c col hc 4
  stepB c col hc 3
  stepC c oc ho 1
  stepE c oc ho
  lastB c col hc
  stepC c oc ho 2
  stepC c oc ho 3
  lastE c oc ho
  sentT c .e
  sentT c (.x 0)
  sentT c (.x 1)
  sentT c (.x 2)
  sentT c (.x 3)
  sentT c (.x 4)
  sentT c (.y 0)
  sentT c (.y 1)
  sentT c (.y 2)
  sentT c (.y 3)

/-! ### The printed form: the offsets and the devices as the program computes them -/

/-- One of the halves of the products at the offset the program computes. -/
abbrev halfAt (o : Fin 2 → ℕ) (r : ℕ) (hr : r ≤ 256) (k : Fin 5) (h : o = ![r, OFF k]) : Mat 256 (W k) :=
  sub pM o 256 (W k) (inb_of h (by omega) (off_le k))

/-- The same steps with the offsets `oS` of the rows sent, `oK` of the rows kept (the sixth is the extra product's), and the
    devices `dx`, `dy` addressed. -/
def branch (c : Dev nD) (col oc : ℕ) (hc : col ≤ 1024) (ho : oc ≤ 1024) (oS oK : Fin 5 → Fin 2 → ℕ) (eS eK : Fin 2 → ℕ) (dx : Fin 5 → Dev nD) (dy : Fin 4 → Dev nD)
    (dE : Dev nD) (hS : ∀ k, oS k = ![sr c, OFF k]) (hK : ∀ k, oK k = ![kr c, OFF k]) (hES : eS = ![sr c, 0]) (hEK : eK = ![kr c, 0]) : Body F :=
  let sH (k : Fin 5) : Mat 256 (W k) := halfAt (oS k) (sr c) (sr_le c) k (hS k)
  let sE : Mat 256 128 := sub peM eS 256 128 (inb_of hES (by have := sr_le c; omega) (by decide))
  let A (k : Fin 5) : Body F := do
    multiply (W k) (w_pos k) pM ![0, col + OFF k] ![0, OFF k] (inb (by omega) (by have := off_le k; omega)) (inb (by omega) (off_le k)) (payP k)
    send (sH k) (chunk xrM k) (dx k) (sS (.x k)) (rS (.x k))
  let B (k : Fin 4) : Body F := do
    waitFor (rS (.x k.castSucc)) (sH k.castSucc) (chunk xrM k.castSucc)
    let ab ← reduce (F := F) (W k.castSucc) (w_pos _) pM xrM rM (oK k.castSucc) ![0, OFF k.castSucc]
      (inb_of (hK _) (by have := kr_le c; omega) (off_le _)) (inb (by omega) (off_le _)) (payR k.castSucc)
    send (chunk rM k.castSucc) (chunk yrM k.castSucc) (dy k) (sS (.y k)) (rS (.y k))
    putOut (W k.castSucc) (w_pos _) ![0, col + OFF k.castSucc] (inb (by omega) (by have := off_le k.castSucc; omega)) (payO k.castSucc ab.1 ab.2)
  let C (k : Fin 4) : Body F := do
    waitFor (rS (.y k)) (chunk rM k.castSucc) (chunk yrM k.castSucc)
    copyOut (W k.castSucc) (w_pos _) yrM ![0, OFF k.castSucc] ![0, oc + OFF k.castSucc] (inb (by omega) (off_le _)) (inb (by omega) (by have := off_le k.castSucc; omega))
  do
  A 0
  A 1
  B 0
  A 2
  B 1
  A 3
  B 2
  C 0
  A 4
  B 3
  C 1
  multiply 128 (by decide) peM ![0, oc + 896] ![0, 0] (inb (by omega) (by omega)) (inb (by omega) (by omega)) k0_pay8
  send sE xoM dE (sS .e) (rS .e)
  waitFor (rS (.x 4)) (sH 4) (chunk xrM 4)
  reduceOut (F := F) (W 4) (w_pos 4) pM xrM (oK 4) ![0, OFF 4] ![0, col + OFF 4]
    (inb_of (hK 4) (by have := kr_le c; omega) (off_le _)) (inb (by omega) (off_le _)) (inb (by omega) (by have := off_le 4; omega)) (payO 4)
  C 2
  C 3
  waitFor (rS .e) sE xoM
  reduceOut (F := F) 128 (by decide) peM xoM eK ![0, 0] ![0, oc + 896]
    (inb_of hEK (by have := kr_le c; omega) (by omega)) (inb (by omega) (by omega)) (inb (by omega) (by omega)) k0_pay12
  waitFor (sS .e) xoM sE
  waitFor (sS (.x 0)) (chunk xrM 0) (sH 0)
  waitFor (sS (.x 1)) (chunk xrM 1) (sH 1)
  waitFor (sS (.x 2)) (chunk xrM 2) (sH 2)
  waitFor (sS (.x 3)) (chunk xrM 3) (sH 3)
  waitFor (sS (.x 4)) (chunk xrM 4) (sH 4)
  waitFor (sS (.y 0)) (chunk yrM 0) (chunk rM 0)
  waitFor (sS (.y 1)) (chunk yrM 1) (chunk rM 1)
  waitFor (sS (.y 2)) (chunk yrM 2) (chunk rM 2)
  waitFor (sS (.y 3)) (chunk yrM 3) (chunk rM 3)

theorem branch_eq (c : Dev nD) (col oc : ℕ) (hc : col ≤ 1024) (ho : oc ≤ 1024) (oS oK : Fin 5 → Fin 2 → ℕ) (eS eK : Fin 2 → ℕ) (dx : Fin 5 → Dev nD) (dy : Fin 4 → Dev nD)
    (dE : Dev nD) (hS : ∀ k, oS k = ![sr c, OFF k]) (hK : ∀ k, oK k = ![kr c, OFF k]) (hES : eS = ![sr c, 0]) (hEK : eK = ![kr c, 0])
    (hdx : ∀ k, dx k = xpeer c) (hdy : ∀ k, dy k = ypeer c) (hdE : dE = xpeer c) :
    branch (F := F) c col oc hc ho oS oK eS eK dx dy dE hS hK hES hEK = steps c col oc hc ho := by
  obtain rfl : oS = fun k => ![sr c, OFF k] := funext hS
  obtain rfl : oK = fun k => ![kr c, OFF k] := funext hK
  obtain rfl : dx = fun _ => xpeer c := funext hdx
  obtain rfl : dy = fun _ => ypeer c := funext hdy
  subst hES hEK hdE
  rfl

/-- The offsets and the devices of the branch a device with second coordinate 0 takes, and of the one it takes with 1. -/
def offS0 (c : Dev nD) : Fin 5 → Fin 2 → ℕ := ![k0_off1 c, k0_off2 c, k0_off4 c, k0_off6 c, k0_off8 c]
theorem offS0_eq (c : Dev nD) : ∀ k, offS0 c k = ![sr c, OFF k] := fun k => by
  fin_cases k
  · exact k0_off1_eq c
  · exact k0_off2_eq c
  · exact k0_off4_eq c
  · exact k0_off6_eq c
  · exact k0_off8_eq c
def offK0 (c : Dev nD) : Fin 5 → Fin 2 → ℕ := ![k0_off3 c, k0_off5 c, k0_off7 c, k0_off9 c, k0_off11 c]
theorem offK0_eq (c : Dev nD) : ∀ k, offK0 c k = ![kr c, OFF k] := fun k => by
  fin_cases k
  · exact k0_off3_eq c
  · exact k0_off5_eq c
  · exact k0_off7_eq c
  · exact k0_off9_eq c
  · exact k0_off11_eq c
def offS1 (c : Dev nD) : Fin 5 → Fin 2 → ℕ := ![k0_off13 c, k0_off14 c, k0_off16 c, k0_off18 c, k0_off20 c]
theorem offS1_eq (c : Dev nD) : ∀ k, offS1 c k = ![sr c, OFF k] := fun k => by
  fin_cases k
  · exact k0_off13_eq c
  · exact k0_off14_eq c
  · exact k0_off16_eq c
  · exact k0_off18_eq c
  · exact k0_off20_eq c
def offK1 (c : Dev nD) : Fin 5 → Fin 2 → ℕ := ![k0_off15 c, k0_off17 c, k0_off19 c, k0_off21 c, k0_off23 c]
theorem offK1_eq (c : Dev nD) : ∀ k, offK1 c k = ![kr c, OFF k] := fun k => by
  fin_cases k
  · exact k0_off15_eq c
  · exact k0_off17_eq c
  · exact k0_off19_eq c
  · exact k0_off21_eq c
  · exact k0_off23_eq c
def devX0 (c : Dev nD) (h : k0_cond1 c = 1#1) : Fin 5 → Dev nD :=
  ![⟨k0_dev3 c, k0_dev3_lt c h⟩, ⟨k0_dev4 c, k0_dev4_lt c h⟩, ⟨k0_dev6 c, k0_dev6_lt c h⟩, ⟨k0_dev8 c, k0_dev8_lt c h⟩, ⟨k0_dev10 c, k0_dev10_lt c h⟩]
theorem devX0_eq (c : Dev nD) (h : k0_cond1 c = 1#1) : ∀ k, devX0 c h k = xpeer c := fun k => by
  fin_cases k
  · exact Fin.ext (k0_dev3_eq c)
  · exact Fin.ext (k0_dev4_eq c)
  · exact Fin.ext (k0_dev6_eq c)
  · exact Fin.ext (k0_dev8_eq c)
  · exact Fin.ext (k0_dev10_eq c)
def devY0 (c : Dev nD) (h : k0_cond1 c = 1#1) : Fin 4 → Dev nD :=
  ![⟨k0_dev5 c, k0_dev5_lt c h⟩, ⟨k0_dev7 c, k0_dev7_lt c h⟩, ⟨k0_dev9 c, k0_dev9_lt c h⟩, ⟨k0_dev11 c, k0_dev11_lt c h⟩]
theorem devY0_eq (c : Dev nD) (h : k0_cond1 c = 1#1) : ∀ k, devY0 c h k = ypeer c := fun k => by
  fin_cases k
  · exact Fin.ext (k0_dev5_eq c)
  · exact Fin.ext (k0_dev7_eq c)
  · exact Fin.ext (k0_dev9_eq c)
  · exact Fin.ext (k0_dev11_eq c)
def devX1 (c : Dev nD) (h : k0_cond2 c = 1#1) : Fin 5 → Dev nD :=
  ![⟨k0_dev13 c, k0_dev13_lt c h⟩, ⟨k0_dev14 c, k0_dev14_lt c h⟩, ⟨k0_dev16 c, k0_dev16_lt c h⟩, ⟨k0_dev18 c, k0_dev18_lt c h⟩, ⟨k0_dev20 c, k0_dev20_lt c h⟩]
theorem devX1_eq (c : Dev nD) (h : k0_cond2 c = 1#1) : ∀ k, devX1 c h k = xpeer c := fun k => by
  fin_cases k
  · exact Fin.ext (k0_dev13_eq c)
  · exact Fin.ext (k0_dev14_eq c)
  · exact Fin.ext (k0_dev16_eq c)
  · exact Fin.ext (k0_dev18_eq c)
  · exact Fin.ext (k0_dev20_eq c)
def devY1 (c : Dev nD) (h : k0_cond2 c = 1#1) : Fin 4 → Dev nD :=
  ![⟨k0_dev15 c, k0_dev15_lt c h⟩, ⟨k0_dev17 c, k0_dev17_lt c h⟩, ⟨k0_dev19 c, k0_dev19_lt c h⟩, ⟨k0_dev21 c, k0_dev21_lt c h⟩]
theorem devY1_eq (c : Dev nD) (h : k0_cond2 c = 1#1) : ∀ k, devY1 c h k = ypeer c := fun k => by
  fin_cases k
  · exact Fin.ext (k0_dev15_eq c)
  · exact Fin.ext (k0_dev17_eq c)
  · exact Fin.ext (k0_dev19_eq c)
  · exact Fin.ext (k0_dev21_eq c)

def printed0 (c : Dev nD) (h : k0_cond1 c = 1#1) : Body F :=
  branch c 0 1024 (by decide) (by decide) (offS0 c) (offK0 c) (k0_off10 c) (k0_off12 c) (devX0 c h) (devY0 c h) ⟨k0_dev12 c, k0_dev12_lt c h⟩
    (offS0_eq c) (offK0_eq c) (k0_off10_eq c) (k0_off12_eq c)
def printed1 (c : Dev nD) (h : k0_cond2 c = 1#1) : Body F :=
  branch c 1024 0 (by decide) (by decide) (offS1 c) (offK1 c) (k0_off22 c) (k0_off24 c) (devX1 c h) (devY1 c h) ⟨k0_dev22 c, k0_dev22_lt c h⟩
    (offS1_eq c) (offK1_eq c) (k0_off22_eq c) (k0_off24_eq c)

theorem printed0_eq (c : Dev nD) (h : k0_cond1 c = 1#1) : printed0 (F := F) c h = steps c 0 1024 (by decide) (by decide) :=
  branch_eq c 0 1024 _ _ _ _ _ _ _ _ _ _ _ _ _ (devX0_eq c h) (devY0_eq c h) (Fin.ext (k0_dev12_eq c))
theorem printed1_eq (c : Dev nD) (h : k0_cond2 c = 1#1) : printed1 (F := F) c h = steps c 1024 0 (by decide) (by decide) :=
  branch_eq c 1024 0 _ _ _ _ _ _ _ _ _ _ _ _ _ (devX1_eq c h) (devY1_eq c h) (Fin.ext (k0_dev22_eq c))

/-- The whole body: the handshake with the two neighbours, then the branch of the device's second coordinate. -/
def whole : Body F := do
  let d0 : Dev nD ← Prog.lift .deviceId
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32
  semWaitWord (SemArray.scalar (sig.barrier 0 rfl) : Sems sig S_).sem 2#32
  if h : k0_cond1 d0 = 1#1 then do
    printed0 d0 h
    pure ⟨⟩
  else do
    pure ⟨⟩
  if h : k0_cond2 d0 = 1#1 then do
    printed1 d0 h
    pure ⟨⟩
  else do
    pure ⟨⟩
  pure ⟨⟩

set_option maxRecDepth 65536 in
set_option maxHeartbeats 4000000 in
/-- The kernel's body is the sequence of steps above. -/
theorem body_eq :
    cc0_body_skel (F := F) xM (Memref.isWhole_whole _) dM (Memref.isWhole_whole _) oM (Memref.isWhole_whole _) pM (Memref.isWhole_whole _)
      xrM (Memref.isWhole_whole _) rM (Memref.isWhole_whole _) yrM (Memref.isWhole_whole _) peM (Memref.isWhole_whole _) xoM (Memref.isWhole_whole _)
      cc0_scratch6 cc0_scratch7 cc0_scratch8 cc0_scratch9 cc0_scratch10 cc0_scratch11 = whole (F := F) := by
  with_unfolding_all rfl

end Cert.TwoAxis

end
-- ==== Proof.Tiles.lean ====
/-
What a device holds of its buffers, and the rules for the steps that move no data between devices.
-/
module

public import proofs.«01_k».proof.Proof.Steps

@[expose] public section

noncomputable section

namespace Cert.TwoAxis

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's rounds and the kernel's own, whose duties are two-valued. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a program at device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` holds the elements of `m`, which read `T`. -/
def own (c : Dev nD) {a b : ℕ} (m : Mat a b) (T : Tile F a b) : sProp 𝕄 := owns (c : Thread nD τ) m fullShare T

/-- Device `c` holds the elements of `m`, whatever they are. -/
def free (c : Dev nD) {a b : ℕ} (m : Mat a b) : sProp 𝕄 :=
  iprop(∃ f : Buf (Elt F) (m.view.loc (c : Thread nD τ)), m.view.loc (c : Thread nD τ) ↦[m.view.set]{fullShare} f)

/-- Device `c` holds the whole buffer `b`, with contents `f`. -/
abbrev all (c : Dev nD) (b : Ref sig .tc) (f : b.ty.Contents (Elt F)) : sProp 𝕄 := ((c : Thread nD τ).loc b) ↦{fullShare} f

omit [FloatOps F] in
instance own_storable (c : Dev nD) {a b : ℕ} (m : Mat a b) (T : Tile F a b) : BI.Storable (upEmb : UEmb _ 𝕄) (own c m T) := by
  unfold own; infer_instance
omit [FloatOps F] in
instance free_storable (c : Dev nD) {a b : ℕ} (m : Mat a b) : BI.Storable (upEmb : UEmb _ 𝕄) (free (F := F) c m) := by
  unfold free; infer_instance

omit [FloatOps F] in
theorem own_free (c : Dev nD) {a b : ℕ} (m : Mat a b) (T : Tile F a b) : own c m T ⊢ (free c m : sProp 𝕄) := by
  unfold own free owns
  iintro ⟨%f, -, H⟩
  iexists f; iexact H

omit [FloatOps F] in
theorem own_intro (c : Dev nD) {a b : ℕ} (m : Mat a b) (f : Buf (Elt F) (m.view.loc (c : Thread nD τ))) :
    (m.view.loc (c : Thread nD τ) ↦[m.view.set]{fullShare} f) ⊢ (own c m (m.view.read (Elt F) f) : sProp 𝕄) := by
  unfold own owns
  iintro H
  iexists f
  isplitr; · ipureintro; rfl
  iexact H

/-! ### Loads and stores -/

section Mem
variable (c : Dev nD) {n k a b : ℕ} (p : Mat n k) (o : Fin 2 → ℕ) (h : Inb n k o a b)

/-- Loading a rectangle held at `T` yields `T`. -/
theorem wp_ld {α : Type} {Q : α → sProp 𝕄} (T : Tile F a b) {hl : p.view.LoadsAt (box (n := n) (k := k) o a b h).toLoadRect} {K : Tile F a b → Prog (TpuEff nD τ sig (Elt F) Λ₀ .tc) α} :
    own c (sub p o a b h) T
      ⊢ iprop((own c (sub p o a b h) T -∗ wpc c (K T) Q) -∗ wpc c (.op (.load p (box (n := n) (k := k) o a b h).toLoadRect hl) K) Q) := by
  unfold own owns
  iintro ⟨%f, %hf, H⟩ HK
  iapply (wp_load_rect 𝒱₀ (c : Thread nD τ) none Set.univ (m := p) (r := box (n := n) (k := k) o a b h) (Finset.Subset.refl _)) $$ H
  iintro H
  have e : (p.access (box (n := n) (k := k) o a b h)).read (Elt F) f = T := hf
  rw [e]
  iapply HK
  iexists f
  isplitr; · ipureintro; exact hf
  iexact H

/-- Loading a rectangle of unknown contents yields some tile. -/
theorem wp_ld_free {α : Type} {Q : α → sProp 𝕄} {hl : p.view.LoadsAt (box (n := n) (k := k) o a b h).toLoadRect} {K : Tile F a b → Prog (TpuEff nD τ sig (Elt F) Λ₀ .tc) α} :
    free c (sub p o a b h)
      ⊢ iprop((∀ T, free c (sub p o a b h) -∗ wpc c (K T) Q) -∗ wpc c (.op (.load p (box (n := n) (k := k) o a b h).toLoadRect hl) K) Q) := by
  unfold free
  iintro ⟨%f, H⟩ HK
  iapply (wp_load_rect 𝒱₀ (c : Thread nD τ) none Set.univ (m := p) (r := box (n := n) (k := k) o a b h) (Finset.Subset.refl _)) $$ H
  iintro H
  iapply HK
  iexists f; iexact H

/-- Storing `v` in a rectangle leaves it holding `v`. -/
theorem wp_st {α : Type} {Q : α → sProp 𝕄} (v : Tile F a b) {hx : (p.access (box (n := n) (k := k) o a b h)).Stores Finset.univ}
    {hm : (Finset.univ : Finset (box (n := n) (k := k) o a b h).shape.Idx) = Finset.univ ∨ ∀ i, (box (n := n) (k := k) o a b h).stride i = 1}
    {K : PUnit → Prog (TpuEff nD τ sig (Elt F) Λ₀ .tc) α} :
    free c (sub p o a b h)
      ⊢ iprop((own c (sub p o a b h) v -∗ wpc c (K ⟨⟩) Q) -∗ wpc c (.op (.store p (box (n := n) (k := k) o a b h) v Finset.univ hx hm) K) Q) := by
  unfold free
  iintro ⟨%f, H⟩ HK
  have hS : (p.access (box (n := n) (k := k) o a b h)).setOn Finset.univ ⊆ (sub p o a b h).view.set := by rw [View.setOn_univ]
  iapply (wp_store 𝒱₀ (c : Thread nD τ) none Set.univ (m := p) (r := box (n := n) (k := k) o a b h) (Mk := Finset.univ) hS) $$ H
  iintro H
  iapply HK
  unfold own owns
  iexists _
  isplitr
  · ipureintro; exact View.read_write_univ f v
  iexact H

end Mem

/-! ### The steps -/

section Steps
variable (c : Dev nD)

/-- The product a device forms of its activation shard `X` and a chunk of columns of `D`. -/
abbrev prod (w : ℕ) (od : Fin 2 → ℕ) (hd : Inb 512 2048 od 512 w) (pay : Tile F 512 512 → Tile F 512 w → Tile F 512 w)
    (X : Tile F 512 512) (D : Tile F 512 2048) : Tile F 512 w :=
  pay X (fun i => D ((box (n := 512) (k := 2048) od 512 w hd).emb i))

theorem wp_multiply {α : Type} {Q : α → sProp 𝕄} {np kp : ℕ} (w : ℕ) (hw : 0 < w) (p : Mat np kp) (od op : Fin 2 → ℕ) (hd : Inb 512 2048 od 512 w) (hp : Inb np kp op 512 w)
    (pay : Tile F 512 512 → Tile F 512 w → Tile F 512 w) (X : Tile F 512 512) (D : Tile F 512 2048) {K : PUnit → Prog (TpuEff nD τ sig (Elt F) Λ₀ .tc) α} :
    iprop(all c cc0_stg0_0 X ∗ all c cc0_stg1_0 D ∗ free c (sub p op 512 w hp))
      ⊢ iprop(((all c cc0_stg0_0 X ∗ all c cc0_stg1_0 D ∗ own c (sub p op 512 w hp) (prod w od hd pay X D)) -∗ wpc c (K ⟨⟩) Q)
          -∗ wpc c (multiply w hw p od op hd hp pay >>= K) Q) := by
  unfold multiply
  simp only [ld, st, Prog.lift, bind, Prog.bind_op, Prog.bind_ret]
  iintro ⟨HX, HD, HP⟩ HK
  iapply (wp_load 𝒱₀ (c : Thread nD τ) none Set.univ (m := xM) (Finset.subset_univ _)) $$ HX; iintro HX
  iapply (wp_load 𝒱₀ (c : Thread nD τ) none Set.univ (m := dM) (Finset.subset_univ _)) $$ HD; iintro HD
  iapply (wp_ld_free c p op hp) $$ HP; iintro %T HP
  iapply (wp_st c p op hp _) $$ HP; iintro HP
  iapply HK
  isplitl [HX]; · iexact HX
  isplitl [HD]; · iexact HD
  have e : xM.view.readAt (Elt F) (box (n := 512) (k := 512) ![0, 0] 512 512 (inb (by omega) (by omega))).toLoadRect X = X :=
    Memref.readAt_unit_zero (Elt F) cc0_stg0_0 (off := ![0, 0]) (by funext i; fin_cases i <;> rfl) (inb (by omega) (by omega)) X
  rw [e]
  iexact HP

theorem wp_reduce {α : Type} {Q : α → sProp 𝕄} {np kp nq kq : ℕ} (w : ℕ) (hw : 0 < w) (p : Mat np kp) (q r : Mat nq kq) (ok oq : Fin 2 → ℕ)
    (hk : Inb np kp ok 256 w) (hq : Inb nq kq oq 256 w) (payr : Tile F 256 w → Tile F 256 w → Tile F 256 w) (A B : Tile F 256 w)
    {K : Tile F 256 w × Tile F 256 w → Prog (TpuEff nD τ sig (Elt F) Λ₀ .tc) α} :
    iprop(own c (sub p ok 256 w hk) A ∗ own c (sub q oq 256 w hq) B ∗ free c (sub r oq 256 w hq))
      ⊢ iprop(((own c (sub p ok 256 w hk) A ∗ own c (sub q oq 256 w hq) B ∗ own c (sub r oq 256 w hq) (payr A B)) -∗ wpc c (K (A, B)) Q)
          -∗ wpc c (reduce w hw p q r ok oq hk hq payr >>= K) Q) := by
  unfold reduce
  simp only [ld, st, Prog.lift, bind, Prog.bind_op, Prog.bind_ret, Prog.pure_eq_ret]
  iintro ⟨HA, HB, HR⟩ HK
  iapply (wp_ld c p ok hk A) $$ HA; iintro HA
  iapply (wp_ld c q oq hq B) $$ HB; iintro HB
  iapply (wp_ld_free c r oq hq) $$ HR; iintro %T HR
  iapply (wp_st c r oq hq _) $$ HR; iintro HR
  iapply HK
  isplitl [HA]; · iexact HA
  isplitl [HB] <;> iassumption

/-- The result buffer after a tile is stored. -/
abbrev put (w : ℕ) (oo : Fin 2 → ℕ) (ho : Inb 256 2048 oo 256 w) (v : Tile F 256 w) (f : Tile F 256 2048) : Tile F 256 2048 :=
  (oM.access (box (n := 256) (k := 2048) oo 256 w ho)).write (Elt F) f v Finset.univ

theorem wp_putOut {α : Type} {Q : α → sProp 𝕄} (w : ℕ) (hw : 0 < w) (oo : Fin 2 → ℕ) (ho : Inb 256 2048 oo 256 w) (v : Tile F 256 w) (f : Tile F 256 2048)
    {K : PUnit → Prog (TpuEff nD τ sig (Elt F) Λ₀ .tc) α} :
    all c cc0_stg2_0 f ⊢ iprop((all c cc0_stg2_0 (put w oo ho v f) -∗ wpc c (K ⟨⟩) Q) -∗ wpc c (putOut w hw oo ho v >>= K) Q) := by
  unfold putOut
  simp only [ld, st, Prog.lift, bind, Prog.bind_op, Prog.bind_ret]
  iintro H HK
  iapply (wp_load 𝒱₀ (c : Thread nD τ) none Set.univ (m := oM) (Finset.subset_univ _)) $$ H; iintro H
  iapply (wp_store 𝒱₀ (c : Thread nD τ) none Set.univ (m := oM) (r := box (n := 256) (k := 2048) oo 256 w ho) (Mk := Finset.univ) (Finset.subset_univ _)) $$ H
  iintro H
  iapply HK
  iexact H

theorem wp_reduceOut {α : Type} {Q : α → sProp 𝕄} {np kp nq kq : ℕ} (w : ℕ) (hw : 0 < w) (p : Mat np kp) (q : Mat nq kq) (ok oq oo : Fin 2 → ℕ)
    (hk : Inb np kp ok 256 w) (hq : Inb nq kq oq 256 w) (ho : Inb 256 2048 oo 256 w) (pay : Tile F 256 w → Tile F 256 w → Tile F 256 w) (A B : Tile F 256 w)
    (f : Tile F 256 2048) {K : PUnit → Prog (TpuEff nD τ sig (Elt F) Λ₀ .tc) α} :
    iprop(own c (sub p ok 256 w hk) A ∗ own c (sub q oq 256 w hq) B ∗ all c cc0_stg2_0 f)
      ⊢ iprop(((own c (sub p ok 256 w hk) A ∗ own c (sub q oq 256 w hq) B ∗ all c cc0_stg2_0 (put w oo ho (pay A B) f)) -∗ wpc c (K ⟨⟩) Q)
          -∗ wpc c (reduceOut w hw p q ok oq oo hk hq ho pay >>= K) Q) := by
  unfold reduceOut
  simp only [ld, Prog.lift, bind, Prog.bind_op, Prog.bind_ret]
  iintro ⟨HA, HB, HO⟩ HK
  iapply (wp_ld c p ok hk A) $$ HA; iintro HA
  iapply (wp_ld c q oq hq B) $$ HB; iintro HB
  iapply (wp_putOut c w hw oo ho (pay A B) f (K := K)) $$ HO; iintro HO
  iapply HK
  isplitl [HA]; · iexact HA
  isplitl [HB] <;> iassumption

theorem wp_copyOut {α : Type} {Q : α → sProp 𝕄} {nq kq : ℕ} (w : ℕ) (hw : 0 < w) (t : Mat nq kq) (oq oo : Fin 2 → ℕ) (hq : Inb nq kq oq 256 w) (ho : Inb 256 2048 oo 256 w)
    (B : Tile F 256 w) (f : Tile F 256 2048) {K : PUnit → Prog (TpuEff nD τ sig (Elt F) Λ₀ .tc) α} :
    iprop(own c (sub t oq 256 w hq) B ∗ all c cc0_stg2_0 f)
      ⊢ iprop(((own c (sub t oq 256 w hq) B ∗ all c cc0_stg2_0 (put w oo ho B f)) -∗ wpc c (K ⟨⟩) Q)
          -∗ wpc c (copyOut w hw t oq oo hq ho >>= K) Q) := by
  unfold copyOut
  simp only [ld, Prog.lift, bind, Prog.bind_op, Prog.bind_ret]
  iintro ⟨HB, HO⟩ HK
  iapply (wp_ld c t oq hq B) $$ HB; iintro HB
  iapply (wp_putOut c w hw oo ho B f (K := K)) $$ HO; iintro HO
  iapply HK
  isplitl [HB] <;> iassumption

end Steps

/-! ### Halves of the rows, and pieces of a buffer -/

/-- 256 rows of a tile from row `o` on. -/
def rows {w : ℕ} (o : ℕ) (ho : o ≤ 256) (T : Tile F 512 w) : Tile F 256 w :=
  fun i => T ((box (n := 512) (k := w) ![o, 0] 256 w (inb (by omega) (by omega))).emb i)

section Sets
variable {n k : ℕ} (p : Mat n k)

theorem mem_sub {o : Fin 2 → ℕ} {a b : ℕ} {h : Inb n k o a b} {i : p.view.ty.Idx} :
    i ∈ (sub p o a b h).view.set ↔ ∃ x : (⟨2, ![n, k]⟩ : Shape).Idx, (o 0 ≤ (x 0).val ∧ (x 0).val < o 0 + a) ∧ (o 1 ≤ (x 1).val ∧ (x 1).val < o 1 + b) ∧ p.view.emb x = i := by
  have e : (sub p o a b h).view.set = (box (n := n) (k := k) o a b h).set.map p.view.emb := View.set_slice _ _
  rw [e, Finset.mem_map]
  refine exists_congr fun x => ?_
  rw [Rect.mem_set_unit, Fin.forall_fin_two, and_assoc]
  rfl

/-- Rectangles of the same buffer are disjoint if their rows or their columns are. -/
theorem disjoint_sub {o o' : Fin 2 → ℕ} {a b a' b' : ℕ} (h : Inb n k o a b) (h' : Inb n k o' a' b')
    (H : o 0 + a ≤ o' 0 ∨ o' 0 + a' ≤ o 0 ∨ o 1 + b ≤ o' 1 ∨ o' 1 + b' ≤ o 1) :
    Disjoint (sub p o a b h).view.set (sub p o' a' b' h').view.set := by
  rw [Finset.disjoint_left]
  intro i hi hi'
  obtain ⟨x, hx, hx', rfl⟩ := (mem_sub p).mp hi
  obtain ⟨y, hy, hy', e⟩ := (mem_sub p).mp hi'
  obtain rfl := p.view.emb.injective e
  omega

theorem halves_set {w q : ℕ} (hp : Inb n k ![0, q] 512 w) {o o' : ℕ} (hoo : o + o' = 256) (hdis : o = 0 ∨ o' = 0)
    (h : Inb n k ![o, q] 256 w) (h' : Inb n k ![o', q] 256 w) :
    (sub p ![0, q] 512 w hp).view.set = (sub p ![o, q] 256 w h).view.set ∪ (sub p ![o', q] 256 w h').view.set := by
  ext i
  rw [Finset.mem_union, mem_sub, mem_sub, mem_sub]
  simp only [Matrix.cons_val_zero, Matrix.cons_val_one]
  constructor
  · rintro ⟨x, hx, hx', e⟩
    by_cases hlt : o ≤ (x 0).val ∧ (x 0).val < o + 256
    · exact .inl ⟨x, hlt, hx', e⟩
    · exact .inr ⟨x, by omega, hx', e⟩
  · rintro (⟨x, hx, hx', e⟩ | ⟨x, hx, hx', e⟩)
    · exact ⟨x, by omega, hx', e⟩
    · exact ⟨x, by omega, hx', e⟩

end Sets

section Halves
variable (c : Dev nD) {n k w q : ℕ} (p : Mat n k) (hp : Inb n k ![0, q] 512 w) {o o' : ℕ} (ho : o ≤ 256) (ho' : o' ≤ 256) (hoo : o + o' = 256) (hdis : o = 0 ∨ o' = 0)
    (h : Inb n k ![o, q] 256 w) (h' : Inb n k ![o', q] 256 w)

omit [FloatOps F] in
theorem read_rows {T : Tile F 512 w} {f : p.view.ty.Contents (Elt F)} (e : (sub p ![0, q] 512 w hp).view.read (Elt F) f = T) :
    (sub p ![o, q] 256 w h).view.read (Elt F) f = rows o ho T := by
  subst e
  funext i
  show (p.view.read (Elt F) f) _ = (p.view.read (Elt F) f) _
  congr 1
  funext a
  apply Fin.ext
  fin_cases a
  · show o + 1 * (i 0).val = 0 + 1 * (o + 1 * (i 0).val); omega
  · show q + 1 * (i 1).val = q + 1 * (0 + 1 * (i 1).val); omega

omit [FloatOps F] in
include hoo hdis in
/-- A tile of 512 rows is its two halves. -/
theorem own_halves (T : Tile F 512 w) :
    own c (sub p ![0, q] 512 w hp) T ⊢ (iprop(own c (sub p ![o, q] 256 w h) (rows o ho T) ∗ own c (sub p ![o', q] 256 w h') (rows o' ho' T)) : sProp 𝕄) := by
  unfold own owns
  iintro ⟨%f, %hf, H⟩
  have hd : Disjoint (sub p ![o, q] 256 w h).view.set (sub p ![o', q] 256 w h').view.set :=
    disjoint_sub p h h' (by simp only [Matrix.cons_val_zero]; omega)
  rw [halves_set p hp hoo hdis h h']
  ihave H := (pointsTo_union hd).1 $$ H
  icases H with ⟨H, H'⟩
  isplitl [H]
  · iexists f
    isplitr; · ipureintro; exact read_rows p hp ho h hf
    iexact H
  · iexists f
    isplitr; · ipureintro; exact read_rows p hp ho' h' hf
    iexact H'

omit [FloatOps F] in
include hoo hdis in
theorem free_halves : iprop(free c (sub p ![o, q] 256 w h) ∗ free c (sub p ![o', q] 256 w h')) ⊢ (free (F := F) c (sub p ![0, q] 512 w hp) : sProp 𝕄) := by
  unfold free
  iintro ⟨⟨%f, H⟩, ⟨%g, H'⟩⟩
  have hd : Disjoint (sub p ![o, q] 256 w h).view.set (sub p ![o', q] 256 w h').view.set :=
    disjoint_sub p h h' (by simp only [Matrix.cons_val_zero]; omega)
  rw [halves_set p hp hoo hdis h h']
  ihave H := (pointsTo_join (ℓ := p.view.loc (c : Thread nD τ)) hd) $$ [H H']
  · isplitl [H]
    · iexact H
    · iexact H'
  iexists _
  iexact H

end Halves

section Cover
variable (c : Dev nD) {n k : ℕ} (p : Mat n k) {T : Type} [Fintype T] [DecidableEq T] (o : T → Fin 2 → ℕ) (a b : T → ℕ) (h : ∀ t, Inb n k (o t) (a t) (b t))
  (hd : ∀ t t', t ≠ t' → Disjoint (sub p (o t) (a t) (b t) (h t)).view.set (sub p (o t') (a t') (b t') (h t')).view.set)
  (hc : ∀ x : (⟨2, ![n, k]⟩ : Shape).Idx, ∃ t, (o t 0 ≤ (x 0).val ∧ (x 0).val < o t 0 + a t) ∧ (o t 1 ≤ (x 1).val ∧ (x 1).val < o t 1 + b t))

include hc in
theorem cover_set : p.view.set = (Finset.univ : Finset T).biUnion fun t => (sub p (o t) (a t) (b t) (h t)).view.set := by
  ext i
  rw [Finset.mem_biUnion]
  constructor
  · intro hi
    rw [View.set, Finset.mem_map] at hi
    obtain ⟨x, -, rfl⟩ := hi
    obtain ⟨t, h0, h1⟩ := hc x
    exact ⟨t, Finset.mem_univ _, (mem_sub p).mpr ⟨x, h0, h1, rfl⟩⟩
  · rintro ⟨t, -, ht⟩
    obtain ⟨x, -, -, rfl⟩ := (mem_sub p).mp ht
    exact Finset.mem_map_of_mem _ (Finset.mem_univ _)

omit [FloatOps F] in
include hd hc in
/-- A buffer that disjoint rectangles cover is those rectangles. -/
theorem free_cover : (free (F := F) c p : sProp 𝕄) ⊢ bigSep Finset.univ fun t => free c (sub p (o t) (a t) (b t) (h t)) := by
  unfold free
  iintro ⟨%f, H⟩
  rw [cover_set p o a b h hc]
  ihave H := (Entails.of_eq (pointsTo_biUnion (ℓ := p.view.loc (c : Thread nD τ)) (q := fullShare) (f := f) Finset.univ
    (fun t => (sub p (o t) (a t) (b t) (h t)).view.set) (fun t _ t' _ => hd t t'))) $$ H
  have hi : ∀ t, (p.view.loc (c : Thread nD τ) ↦[(sub p (o t) (a t) (b t) (h t)).view.set]{fullShare} f : sProp 𝕄)
      ⊢ iprop(∃ g : Buf (Elt F) ((sub p (o t) (a t) (b t) (h t)).view.loc (c : Thread nD τ)), (sub p (o t) (a t) (b t) (h t)).view.loc (c : Thread nD τ) ↦[(sub p (o t) (a t) (b t) (h t)).view.set]{fullShare} g) := by
    intro t; iintro H; iexists f; iexact H
  ihave H := (show (bigSep Finset.univ fun t => (p.view.loc (c : Thread nD τ) ↦[(sub p (o t) (a t) (b t) (h t)).view.set]{fullShare} f : sProp 𝕄)) ⊢ _ from bigSep_mono fun t _ => hi t) $$ H
  iexact H

omit [FloatOps F] in
include hd hc in
theorem free_uncover [Nonempty (p.view.ty.Contents (Elt F))] : (bigSep Finset.univ fun t => free c (sub p (o t) (a t) (b t) (h t))) ⊢ (free (F := F) c p : sProp 𝕄) := by
  unfold free
  iintro H
  ihave H := (BI.bigSep_exists_pi Finset.univ fun t (g : Buf (Elt F) (p.view.loc (c : Thread nD τ))) =>
    p.view.loc (c : Thread nD τ) ↦[(sub p (o t) (a t) (b t) (h t)).view.set]{fullShare} g) $$ H
  icases H with ⟨%fs, H⟩
  ihave H := (pointsTo_biUnion_join (ℓ := p.view.loc (c : Thread nD τ)) (q := fullShare) Finset.univ
    (fun t => (sub p (o t) (a t) (b t) (h t)).view.set) fs (Classical.arbitrary _) (fun t _ t' _ => hd t t')) $$ H
  icases H with ⟨%g, -, H⟩
  rw [cover_set p o a b h hc]
  iexists g
  iexact H

end Cover

end Cert.TwoAxis

end
-- ==== Proof.Protocol.lean ====
/-
Who hands what to whom: the cells of the kernel's semaphores, what a unit of each carries, the order in which a device
pays, and the rules for the signals, the transfers and the waits.
-/
module

public import proofs.«01_k».proof.Proof.Tiles

@[expose] public section

noncomputable section

namespace Cert.TwoAxis

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### Neighbours -/

theorem xpeer_xpeer (c : Dev nD) : xpeer (xpeer c) = c := by revert c; decide
theorem ypeer_ypeer (c : Dev nD) : ypeer (ypeer c) = c := by revert c; decide
theorem peer_peer (t : Tr) (c : Dev nD) : peer t (peer t c) = c := by
  cases t
  · exact xpeer_xpeer c
  · exact ypeer_ypeer c
  · exact xpeer_xpeer c

/-- Where the columns start that a device reduces with its first neighbour, and where the others start. -/
def col (c : Dev nD) : ℕ := c.val % 2 * 1024
def oc (c : Dev nD) : ℕ := 1024 - c.val % 2 * 1024
theorem col_le (c : Dev nD) : col c ≤ 1024 := by unfold col; omega
theorem oc_le (c : Dev nD) : oc c ≤ 1024 := by unfold oc; omega

/-! ### The tiles -/

/-- A chunk of all 512 rows of the buffer of products, and the buffer of the extra product. -/
abbrev pChunk (k : Fin 5) : Mat 512 (W k) := sub pM ![0, OFF k] 512 (W k) (inb (by omega) (off_le k))
abbrev peAll : Mat 512 128 := sub peM ![0, 0] 512 128 (inb (by omega) (by omega))

section Values
variable (X : Dev nD → Tile F 512 512) (D : Dev nD → Tile F 512 2048)

/-- A chunk of the partial product of device `c`, and its extra one. -/
def PT (c : Dev nD) (k : Fin 5) : Tile F 512 (W k) :=
  prod (W k) ![0, col c + OFF k] (inb (by omega) (by have := off_le k; have := col_le c; omega)) (payP k) (X c) (D c)
def PE (c : Dev nD) : Tile F 512 128 :=
  prod 128 ![0, oc c + 896] (inb (by omega) (by have := oc_le c; omega)) k0_pay8 (X c) (D c)

/-- What transfer `t` of device `c` carries. -/
def val (c : Dev nD) : (t : Tr) → Tile F 256 (tw t)
  | .x k => rows (sr c) (sr_le c) (PT X D c k)
  | .y k => payR k.castSucc (rows (kr c) (kr_le c) (PT X D c k.castSucc)) (rows (sr (xpeer c)) (sr_le _) (PT X D (xpeer c) k.castSucc))
  | .e => rows (sr c) (sr_le c) (PE X D c)

end Values

/-! ### The cells -/

abbrev barS : Sem sig := (SemArray.scalar (sig.barrier 0 rfl) : Sems sig S_).sem
abbrev barCell (c : Dev nD) : GSem nD τ sig := ((c : Thread nD τ), .reg barS)
abbrev dCell (c : Dev nD) (q : DmaSem sig) : GSem nD τ sig := ((c : Thread nD τ), .dma q)
abbrev sCell (c : Dev nD) (t : Tr) : GSem nD τ sig := dCell c (sS t)
abbrev rCell (c : Dev nD) (t : Tr) : GSem nD τ sig := dCell c (rS t)

/-- The kernel's own semaphores: all DMA semaphores but the three of the staging. -/
abbrev osem : Fin 22 → SemLoc sig := fun i => .dma ⟨i.val + 3, by show i.val + 3 < 25; omega⟩
/-- Those and the runtime's barrier semaphore, in front. -/
def csem (k : Fin 23) : SemLoc sig := if k.val = 0 then .reg barS else .dma ⟨k.val + 2, by show k.val + 2 < 25; omega⟩
abbrev kcell (ck : Dev nD × Fin 23) : GSem nD τ sig := ((ck.1 : Thread nD τ), csem ck.2)

theorem csem_succ (i : Fin 22) : csem i.succ = osem i := by
  unfold csem; rw [if_neg (by simp)]; rfl

def sIdx (t : Tr) : Fin 22 := ⟨(sS t).val - 3, by have : (sS t).val < 25 := (sS t).isLt; omega⟩
def rIdx (t : Tr) : Fin 22 := ⟨(rS t).val - 3, by have : (rS t).val < 25 := (rS t).isLt; omega⟩
theorem osem_s (t : Tr) : osem (sIdx t) = .dma (sS t) := by
  rcases t with k | k | _ <;> first | rfl | (fin_cases k <;> rfl)
theorem osem_r (t : Tr) : osem (rIdx t) = .dma (rS t) := by
  rcases t with k | k | _ <;> first | rfl | (fin_cases k <;> rfl)
theorem kcell_s (c : Dev nD) (t : Tr) : kcell (c, (sIdx t).succ) = sCell c t := by show (_, _) = (_, _); rw [csem_succ, osem_s]
theorem kcell_r (c : Dev nD) (t : Tr) : kcell (c, (rIdx t).succ) = rCell c t := by show (_, _) = (_, _); rw [csem_succ, osem_r]
theorem kcell_bar (c : Dev nD) : kcell (c, 0) = barCell c := rfl

/-- Which transfer a DMA semaphore belongs to, at the receiver (`true`) or at the sender. -/
def tagN : ℕ → Option (Bool × Tr)
  | 3 => some (false, .x 0) | 4 => some (false, .x 1) | 5 => some (false, .x 2) | 6 => some (false, .x 3) | 7 => some (false, .x 4)
  | 8 => some (true, .x 0) | 9 => some (true, .x 1) | 10 => some (true, .x 2) | 11 => some (true, .x 3) | 12 => some (true, .x 4)
  | 13 => some (false, .y 0) | 14 => some (false, .y 1) | 15 => some (false, .y 2) | 16 => some (false, .y 3)
  | 18 => some (true, .y 0) | 19 => some (true, .y 1) | 20 => some (true, .y 2) | 21 => some (true, .y 3)
  | 23 => some (false, .e) | 24 => some (true, .e)
  | _ => none
def tag (q : DmaSem sig) : Option (Bool × Tr) := tagN q.val
theorem tag_s (t : Tr) : tag (sS t) = some (false, t) := by
  rcases t with k | k | _ <;> first | rfl | (fin_cases k <;> rfl)
theorem tag_r (t : Tr) : tag (rS t) = some (true, t) := by
  rcases t with k | k | _ <;> first | rfl | (fin_cases k <;> rfl)

/-- The credit of a transfer. -/
def amt (t : Tr) : ℕ := (dst t).view.dmaCredit
theorem amt_src (c : Dev nD) (t : Tr) : (src c t).view.dmaCredit = amt t := by
  unfold amt
  rcases t with k | k | _ <;> rfl
theorem amt_pos (t : Tr) : 0 < amt t := by
  apply View.dmaCredit_pos
  rcases t with k | k | _
  · exact numel_pos (by decide) (w_pos k)
  · exact numel_pos (by decide) (w_pos _)
  · exact numel_pos (by decide) (by decide)

/-! ### The schedule -/

/-- What a neighbour's signal hands over: the buffers of the neighbour that the transfers to it fill. -/
def barPay (c : Dev nD) (d : Bool) : sProp 𝕄 :=
  if d then bigSep Finset.univ fun k : Fin 4 => free (peer (.y k) c) (dst (.y k))
  else iprop((bigSep Finset.univ fun k : Fin 5 => free (peer (.x k) c) (dst (.x k))) ∗ free (peer .e c) (dst .e))

section Sched
variable (X : Dev nD → Tile F 512 512) (D : Dev nD → Tile F 512 2048)

/-- What a completed transfer hands over: at the sender the tile it read, at the receiver the tile filled. -/
def dmaPay (c : Dev nD) (q : DmaSem sig) : sProp 𝕄 :=
  match tag q with
  | some (false, t) => own c (src c t) (val X D c t)
  | some (true, t) => own c (dst t) (val X D (peer t c) t)
  | none => iprop(emp)

def dmaAmt (q : DmaSem sig) : ℕ :=
  match tag q with
  | some (_, t) => amt t
  | none => 1

/-- One round: two duties of the barrier cell, one of each used DMA cell. -/
def Rd : Rounds.Schedule (GSem nD τ sig) Bool 𝕄 where
  duties g r := if r = 0 ∧ g.1.2 = .tc then (match g.2 with
    | .reg s => if s = barS then Finset.univ else ∅
    | .dma q => if (tag q).isSome then {false} else ∅) else ∅
  unitless _ := False
  amount g _ _ := match g.2 with
    | .reg _ => 1
    | .dma q => dmaAmt q
  payload g _ d := match g.2 with
    | .reg _ => barPay g.1.1 d
    | .dma q => dmaPay X D g.1.1 q
  amount_pos g _ _ _ := by
    rcases g with ⟨th, _ | q⟩
    · exact Nat.one_pos
    · show 0 < dmaAmt q
      unfold dmaAmt
      split
      · exact amt_pos _
      · exact Nat.one_pos

omit [FloatOps F] in
instance barPay_storable (c : Dev nD) (d : Bool) : BI.Storable (upEmb : UEmb _ 𝕄) (barPay (F := F) c d) := by
  unfold barPay; split <;> infer_instance
instance dmaPay_storable (c : Dev nD) (q : DmaSem sig) : BI.Storable (upEmb : UEmb _ 𝕄) (dmaPay X D c q) := by
  unfold dmaPay; split <;> infer_instance
instance Rd_storable (g : GSem nD τ sig) (r : ℕ) (d : Bool) : BI.Storable (upEmb : UEmb _ 𝕄) ((Rd X D).payload g r d) := by
  rcases g with ⟨th, s | q⟩
  · show BI.Storable (upEmb : UEmb _ 𝕄) (barPay th.1 d); infer_instance
  · show BI.Storable (upEmb : UEmb _ 𝕄) (dmaPay X D th.1 q); infer_instance

variable (c : Dev nD) (t : Tr)

theorem duties_bar : (Rd X D).duties (barCell c) 0 = Finset.univ := by
  dsimp only [Rd]
  exact (if_pos ⟨rfl, rfl⟩).trans (if_pos rfl)
theorem duties_dma (q : DmaSem sig) (h : (tag q).isSome) : (Rd X D).duties (dCell c q) 0 = {false} := by
  dsimp only [Rd]
  exact (if_pos ⟨rfl, rfl⟩).trans (if_pos h)
theorem duties_s : (Rd X D).duties (sCell c t) 0 = {false} := duties_dma X D c _ (by rw [tag_s]; rfl)
theorem duties_r : (Rd X D).duties (rCell c t) 0 = {false} := duties_dma X D c _ (by rw [tag_r]; rfl)
theorem duties_later (g : GSem nD τ sig) : ∀ r, 1 ≤ r → (Rd X D).duties g r = ∅ :=
  fun r hr => if_neg fun h => by omega
theorem duties_none (q : DmaSem sig) (h : tag q = none) : ∀ r, 0 ≤ r → (Rd X D).duties (dCell c q) r = ∅ := fun r _ => by
  dsimp only [Rd]
  rw [if_neg (by rw [h]; simp : ¬ (tag q).isSome), ite_self]

theorem amount_s (d : Bool) : (Rd X D).amount (sCell c t) 0 d = amt t := by show dmaAmt _ = _; unfold dmaAmt; rw [tag_s]
theorem amount_r (d : Bool) : (Rd X D).amount (rCell c t) 0 d = amt t := by show dmaAmt _ = _; unfold dmaAmt; rw [tag_r]
theorem amount_bar (d : Bool) : (Rd X D).amount (barCell c) 0 d = 1 := rfl

theorem expect_bar : (Rd X D).expect (barCell c) 0 = 2 := by
  unfold Schedule.expect Schedule.amountOf
  rw [duties_bar, Finset.sum_congr rfl fun d _ => amount_bar X D c d, Finset.sum_const, Finset.card_univ, Fintype.card_bool, smul_eq_mul]
theorem expect_s : (Rd X D).expect (sCell c t) 0 = amt t := by
  unfold Schedule.expect Schedule.amountOf; rw [duties_s, Finset.sum_singleton, amount_s]
theorem expect_r : (Rd X D).expect (rCell c t) 0 = amt t := by
  unfold Schedule.expect Schedule.amountOf; rw [duties_r, Finset.sum_singleton, amount_r]

theorem payload_s (d : Bool) : (Rd X D).payload (sCell c t) 0 d = own c (src c t) (val X D c t) := by
  show dmaPay X D c _ = _; unfold dmaPay; rw [tag_s]
theorem payload_r (d : Bool) : (Rd X D).payload (rCell c t) 0 d = own c (dst t) (val X D (peer t c) t) := by
  show dmaPay X D c _ = _; unfold dmaPay; rw [tag_r]

theorem rest_bar : bigSep ((Rd X D).duties (barCell c) 0 \ ∅) (fun d => (Rd X D).payload (barCell c) 0 d) = iprop(barPay c false ∗ barPay c true) := by
  rw [Finset.sdiff_empty, duties_bar, bigSep_univ_eq_bigSepL [false, true] (by decide) (by decide), bigSepL_cons_cons, bigSepL_singleton]
  rfl
theorem rest_s : bigSep ((Rd X D).duties (sCell c t) 0 \ ∅) (fun d => (Rd X D).payload (sCell c t) 0 d) = own c (src c t) (val X D c t) := by
  rw [Finset.sdiff_empty, duties_s, bigSep_singleton, payload_s]
theorem rest_r : bigSep ((Rd X D).duties (rCell c t) 0 \ ∅) (fun d => (Rd X D).payload (rCell c t) 0 d) = own c (dst t) (val X D (peer t c) t) := by
  rw [Finset.sdiff_empty, duties_r, bigSep_singleton, payload_r]

end Sched

/-! ### What a device owes, and the levels -/

/-- A device's payments to others: the signal to each neighbour, and the ten transfers. -/
inductive Pay where
  | bx
  | by'
  | tr (t : Tr)
  deriving DecidableEq

def payCell (c : Dev nD) : Pay → GSem nD τ sig
  | .bx => barCell (xpeer c)
  | .by' => barCell (ypeer c)
  | .tr t => rCell (peer t c) t
def payAmt : Pay → ℕ
  | .bx => 1
  | .by' => 1
  | .tr t => amt t

/-- What the payments still to be made add up to. -/
def owe (c : Dev nD) : List Pay → CellTallies nD τ sig Unit
  | [] => 0
  | p :: l => owe c l + tallyAt (payCell c p) () (payAmt p)

/-- All payments in the order they are made, after the signals and altogether. -/
def pays : List Pay :=
  [.tr (.x 0), .tr (.x 1), .tr (.y 0), .tr (.x 2), .tr (.y 1), .tr (.x 3), .tr (.y 2), .tr (.x 4), .tr (.y 3), .tr .e]
def allPays : List Pay := .bx :: .by' :: pays

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a semaphore: in the order in which what arrives is waited for. -/
def lvT : Tr → ℕ
  | .x k => ![2, 3, 5, 7, 9] k
  | .y k => ![4, 6, 8, 10] k
  | .e => 11
def lvS : SemLoc sig → ℕ
  | .reg _ => 1
  | .dma q => match tag q with
    | some (true, t) => lvT t
    | _ => 0
def lv (g : GSem nD τ sig) (_ : Unit) : ℕ := lvS g.2
def lvP : Pay → ℕ
  | .bx => 1
  | .by' => 1
  | .tr t => lvT t
theorem lvS_r (t : Tr) : lvS (.dma (rS t)) = lvT t := by simp only [lvS, tag_r]
theorem lv_pay (c : Dev nD) (p : Pay) (u : Unit) : lv (payCell c p) u = lvP p := by
  cases p
  · rfl
  · rfl
  · exact lvS_r _
theorem L_pay (c : Dev nD) (p : Pay) (u : Unit) : u ∈ L (payCell c p) := by
  cases p <;> exact (L_tc _ _).symm ▸ Finset.mem_singleton_self _

theorem owe_pos {c : Dev nD} {l : List Pay} {g : GSem nD τ sig} {u : Unit} (h : 0 < owe c l g u) : ∃ p ∈ l, g = payCell c p := by
  induction l with
  | nil => exact absurd h (Nat.lt_irrefl 0)
  | cons p l ih =>
    unfold owe at h
    rw [Pi.add_apply, Finsupp.add_apply, tallyAt_apply] at h
    by_cases hg : g = payCell c p ∧ u = ()
    · exact ⟨p, List.mem_cons_self, hg.1⟩
    · rw [if_neg hg, Nat.add_zero] at h
      obtain ⟨p', hp, e⟩ := ih h
      exact ⟨p', List.mem_cons_of_mem _ hp, e⟩

omit [FloatOps F] in
/-- A device may wait on a semaphore whose level is below those of all it still has to pay. -/
theorem mayWait (c : Dev nD) (sm : SemLoc sig) (l : List Pay) (h : ∀ p ∈ l, lvS sm < lvP p) :
    (levAts L lv : sProp 𝕄) ⊢ MayWait (c : Thread nD τ) sm () (owe c l) :=
  MayOwe.of_cut (L := L) (lev := lv) (lvS sm) (fun p hp => by rw [Finset.mem_singleton.mp hp, L_tc]; exact Finset.mem_singleton_self _)
    (fun g u hg => by obtain ⟨p, -, rfl⟩ := owe_pos hg; exact L_pay c p u)
    (fun p hp => by rw [Finset.mem_singleton.mp hp]; exact le_rfl)
    (fun g u hg => by obtain ⟨p, hp, rfl⟩ := owe_pos hg; rw [lv_pay]; exact h p hp)

/-! ### The rules -/

section Rules
variable (X : Dev nD → Tile F 512 512) (D : Dev nD → Tile F 512 2048) (K : Dev nD × Fin 23 → ℕ)

/-- The cells' invariants, and that every cell is at its round. -/
def records : sProp 𝕄 :=
  iprop((bigSep Finset.univ fun ck : Dev nD × Fin 23 => cellInv ER (Rd X D) (K ck) (kcell ck))
    ∗ bigSep Finset.univ fun ck : Dev nD × Fin 23 => reached ER (kcell ck) 0)
instance records_persistent : BI.Persistent (records X D K) := by unfold records; infer_instance

/-- What every step may use. -/
def ctx : sProp 𝕄 := iprop(records X D K ∗ levAts L lv)
instance ctx_persistent : BI.Persistent (ctx X D K) := by unfold ctx; infer_instance

theorem inv_at (ck : Dev nD × Fin 23) : ctx X D K ⊢ cellInv ER (Rd X D) (K ck) (kcell ck) := by
  unfold ctx records
  iintro ⟨⟨H, -⟩, -⟩
  iapply (show (bigSep Finset.univ fun ck : Dev nD × Fin 23 => (cellInv ER (Rd X D) (K ck) (kcell ck) : sProp 𝕄)) ⊢ _ from bigSep_elim (Finset.mem_univ ck)); iexact H
theorem reached_at (ck : Dev nD × Fin 23) : ctx X D K ⊢ reached ER (kcell ck) 0 := by
  unfold ctx records
  iintro ⟨⟨-, H⟩, -⟩
  iapply (show (bigSep Finset.univ fun ck : Dev nD × Fin 23 => (reached ER (kcell ck) 0 : sProp 𝕄)) ⊢ _ from bigSep_elim (Finset.mem_univ ck)); iexact H
theorem lev_at : ctx X D K ⊢ levAts L lv := by
  unfold ctx; iintro ⟨-, H⟩; iexact H
theorem inv_s (c : Dev nD) (t : Tr) : ctx X D K ⊢ cellInv ER (Rd X D) (K (c, (sIdx t).succ)) (sCell c t) := by
  have h := inv_at X D K (c, (sIdx t).succ)
  rw [kcell_s] at h; exact h
theorem inv_r (c : Dev nD) (t : Tr) : ctx X D K ⊢ cellInv ER (Rd X D) (K (c, (rIdx t).succ)) (rCell c t) := by
  have h := inv_at X D K (c, (rIdx t).succ)
  rw [kcell_r] at h; exact h
theorem inv_bar (c : Dev nD) : ctx X D K ⊢ cellInv ER (Rd X D) (K (c, 0)) (barCell c) := by
  have h := inv_at X D K (c, 0)
  rw [kcell_bar] at h; exact h
theorem reached_s (c : Dev nD) (t : Tr) : ctx X D K ⊢ reached ER (sCell c t) 0 := by
  have h := reached_at X D K (c, (sIdx t).succ)
  rw [kcell_s] at h; exact h
theorem reached_r (c : Dev nD) (t : Tr) : ctx X D K ⊢ reached ER (rCell c t) 0 := by
  have h := reached_at X D K (c, (rIdx t).succ)
  rw [kcell_r] at h; exact h
theorem reached_bar (c : Dev nD) : ctx X D K ⊢ reached ER (barCell c) 0 := by
  have h := reached_at X D K (c, 0)
  rw [kcell_bar] at h; exact h

/-- The payments left. -/
def debt (c : Dev nD) (l : List Pay) : sProp 𝕄 := iprop(∃ W, owes (c : Thread nD τ) (owe c l) W)

/-- Before a transfer is started, while it is under way, and what its arrival is waited for with. -/
def ready (c : Dev nD) (t : Tr) : sProp 𝕄 :=
  iprop(free (peer t c) (dst t) ∗ dutyTok ER (sCell c t) 0 false ∗ dutyTok ER (rCell (peer t c) t) 0 false)
def flying (c : Dev nD) (t : Tr) : sProp 𝕄 := cred (tallyAt (sCell c t) () (amt t))
def coming (c : Dev nD) (t : Tr) : sProp 𝕄 := iprop(cred (tallyAt (rCell c t) () (amt t)) ∗ atPos ER (rCell c t) 0 ∅ 0)

variable (c : Dev nD) {α : Type}

theorem wp_sendT (Q : α → sProp 𝕄) (t : Tr) (l : List Pay) {k : PUnit → Prog (TpuEff nD τ sig (Elt F) Λ₀ .tc) α} :
    iprop(ctx X D K ∗ own c (src c t) (val X D c t) ∗ ready c t ∗ debt c (.tr t :: l))
      ⊢ iprop(((flying c t ∗ debt c l) -∗ wpc c (k ⟨⟩) Q) -∗ wpc c (sendT c t >>= k) Q) := by
  unfold sendT send own owns ready debt
  simp only [Prog.lift, bind, Prog.bind_op, Prog.bind_ret]
  iintro ⟨#HC, ⟨%fs, %hfs, Hs⟩, ⟨Hd, Ht1, Ht2⟩, ⟨%Wt, HO⟩⟩ HK
  unfold free
  icases Hd with ⟨%fd, Hd⟩
  iapply (Rounds.wp_send_pointsTo 𝒱₀ ER (Rd X D) (c : Thread nD τ) none (κ₁ := K (c, (sIdx t).succ)) (κ₂ := K (peer t c, (rIdx t).succ))
    (r₁ := 0) (r₂ := 0) (d₁ := false) (d₂ := false) (fd := fd)
    (by rw [duties_s]; exact Finset.mem_singleton_self _) (by rw [duties_r]; exact Finset.mem_singleton_self _)
    () () (amt t) rfl (amount_s X D c t false) (amount_r X D (peer t c) t false) (owe c l) rfl (W := Wt)
    (by rw [payload_s, ← hfs]; exact own_intro c (src c t) fs)
    (by
      rw [payload_r, peer_peer, ← hfs]
      have e := own_intro (peer t c) (dst t) ((dst t).view.write (Elt F) fd ((src c t).view.read (Elt F) fs) Finset.univ)
      rw [View.read_write_univ] at e
      exact e)) $$ [Hs Hd HO Ht1 Ht2]
  · isplitr; · iapply (inv_s X D K c t); iexact HC
    isplitr; · iapply (inv_r X D K (peer t c) t); iexact HC
    isplitl [Hs]; · iexact Hs
    isplitl [Hd]; · iexact Hd
    isplitl [HO]; · iexact HO
    isplitl [Ht1]; · iexact Ht1
    isplitr; · iapply (reached_s X D K c t); iexact HC
    isplitl [Ht2]; · iexact Ht2
    iapply (reached_r X D K (peer t c) t); iexact HC
  iintro ⟨Hc, HO⟩
  iapply HK
  isplitl [Hc]; · unfold flying; iexact Hc
  iexists Wt; iexact HO

theorem wp_recvT (Q : α → sProp 𝕄) (t : Tr) (l : List Pay) (hl : ∀ p ∈ l, lvT t < lvP p) {k : PUnit → Prog (TpuEff nD τ sig (Elt F) Λ₀ .tc) α} :
    iprop(ctx X D K ∗ coming c t ∗ debt c l)
      ⊢ iprop(((own c (dst t) (val X D (peer t c) t) ∗ semVal (rCell c t) 0 ∗ debt c l) -∗ wpc c (k ⟨⟩) Q) -∗ wpc c (recvT c t >>= k) Q) := by
  unfold recvT waitFor coming debt
  simp only [Prog.lift, bind, Prog.bind_op, Prog.bind_ret]
  iintro ⟨#HC, ⟨Hc, Hat⟩, ⟨%Wt, HO⟩⟩ HK
  iapply (Rounds.wp_wait_rest_token 𝒱₀ ER (Rd X D) (c : Thread nD τ) none (κ := K (c, (rIdx t).succ))
      (wpE_waitDma2_eq 𝒱₀ (c : Thread nD τ) none Set.univ) (Set.mem_univ _) () (O := owe c l) (W := Wt) (R := 0) (m := 0) (T := ∅)
      (by rw [Nat.zero_add, expect_r]; rfl)) $$ [Hc HO Hat]
  · isplitr; · iapply (inv_r X D K c t); iexact HC
    isplitl [Hc]; · iexact Hc
    isplitl [HO]; · iexact HO
    isplitr
    · iapply (mayWait c (.dma (rS t)) l (by rw [lvS_r]; exact hl)); iapply (lev_at X D K); iexact HC
    iexact Hat
  iintro ⟨HO, Hat, -, Hpay⟩
  ihave Hp := (Entails.of_eq (rest_r X D c t)) $$ Hpay
  imod (Rounds.cell_close ER (Rd X D) (Set.mem_univ (K (c, (rIdx t).succ))) (fun h => h) (R := 0 + 1) (duties_later X D (rCell c t))) $$ [Hat] with Hz
  · isplitr; · iapply (inv_r X D K c t); iexact HC
    iexact Hat
  iapply HK
  isplitl [Hp]; · iexact Hp
  isplitl [Hz]; · iexact Hz
  iexists _; iexact HO

theorem wp_sentT (Q : α → sProp 𝕄) (t : Tr) {k : PUnit → Prog (TpuEff nD τ sig (Elt F) Λ₀ .tc) α} :
    iprop(ctx X D K ∗ flying c t ∗ atPos ER (sCell c t) 0 ∅ 0 ∗ debt c [])
      ⊢ iprop(((free c (src c t) ∗ semVal (sCell c t) 0 ∗ debt c []) -∗ wpc c (k ⟨⟩) Q) -∗ wpc c (sentT c t >>= k) Q) := by
  unfold sentT waitFor flying debt
  simp only [Prog.lift, bind, Prog.bind_op, Prog.bind_ret]
  iintro ⟨#HC, Hc, Hat, ⟨%Wt, HO⟩⟩ HK
  iapply (Rounds.wp_wait_rest_token 𝒱₀ ER (Rd X D) (c : Thread nD τ) none (κ := K (c, (sIdx t).succ))
      (wpE_waitDma2_eq 𝒱₀ (c : Thread nD τ) none Set.univ) (Set.mem_univ _) () (O := owe c []) (W := Wt) (R := 0) (m := 0) (T := ∅)
      (by rw [Nat.zero_add, expect_s]; exact amt_src c t)) $$ [Hc HO Hat]
  · isplitr; · iapply (inv_s X D K c t); iexact HC
    isplitl [Hc]; · rw [amt_src c t]; iexact Hc
    isplitl [HO]; · iexact HO
    isplitr
    · iapply (mayWait c (.dma (sS t)) [] (by simp)); iapply (lev_at X D K); iexact HC
    iexact Hat
  iintro ⟨HO, Hat, -, Hpay⟩
  ihave Hp := (Entails.of_eq (rest_s X D c t)) $$ Hpay
  imod (Rounds.cell_close ER (Rd X D) (Set.mem_univ (K (c, (sIdx t).succ))) (fun h => h) (R := 0 + 1) (duties_later X D (sCell c t))) $$ [Hat] with Hz
  · isplitr; · iapply (inv_s X D K c t); iexact HC
    iexact Hat
  iapply HK
  isplitl [Hp]; · iapply (own_free c (src c t) (val X D c t)); iexact Hp
  isplitl [Hz]; · iexact Hz
  iexists _; iexact HO

end Rules

end Cert.TwoAxis

end
-- ==== Proof.Run.lean ====
/-
The run of the kernel's body on one device.
-/
module

public import proofs.«01_k».proof.Proof.Protocol

@[expose] public section

noncomputable section

namespace Cert.TwoAxis

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Values
variable (X : Dev nD → Tile F 512 512) (D : Dev nD → Tile F 512 2048) (c : Dev nD)

/-! ### The tiles of the result, and the result after they are stored -/

/-- The tiles a device reduces with its first neighbour, those it gets from its second, and the extra one. -/
def tB (k : Fin 5) : Tile F 256 (W k) := payO k (rows (kr c) (kr_le c) (PT X D c k)) (rows (sr (xpeer c)) (sr_le _) (PT X D (xpeer c) k))
def tE : Tile F 256 128 := k0_pay12 (rows (kr c) (kr_le c) (PE X D c)) (rows (sr (xpeer c)) (sr_le _) (PE X D (xpeer c)))

def oB (k : Fin 5) (f : Tile F 256 2048) : Tile F 256 2048 :=
  put (W k) ![0, col c + OFF k] (inb (by omega) (by have := off_le k; have := col_le c; omega)) (tB X D c k) f
def oC (k : Fin 4) (f : Tile F 256 2048) : Tile F 256 2048 :=
  put (W k.castSucc) ![0, oc c + OFF k.castSucc] (inb (by omega) (by have := off_le k.castSucc; have := oc_le c; omega)) (val X D (ypeer c) (.y k)) f
def oE (f : Tile F 256 2048) : Tile F 256 2048 :=
  put 128 ![0, oc c + 896] (inb (by omega) (by have := oc_le c; omega)) (tE X D c) f

/-- The result buffer, from contents `f`, after all ten tiles. -/
def outFrom (f : Tile F 256 2048) : Tile F 256 2048 :=
  oE X D c (oC X D c 3 (oC X D c 2 (oB X D c 4 (oC X D c 1 (oB X D c 3 (oC X D c 0 (oB X D c 2 (oB X D c 1 (oB X D c 0 f)))))))))

end Values

section Steps
variable (X : Dev nD → Tile F 512 512) (D : Dev nD → Tile F 512 2048) (K : Dev nD × Fin 23 → ℕ) (c : Dev nD) {α : Type}

/-- The kept half of a chunk of products, and of the extra one. -/
abbrev kept (k : Fin 5) : sProp 𝕄 := own c (half (kr c) (kr_le c) k) (rows (kr c) (kr_le c) (PT X D c k))
abbrev keptE : sProp 𝕄 := own c (halfE (kr c) (kr_le c)) (rows (kr c) (kr_le c) (PE X D c))

theorem sr_kr : sr c + kr c = 256 := by have := kr_le c; show 256 - 256 * (c.val / 2) + 256 * (c.val / 2) = 256; have : 256 * (c.val / 2) ≤ 256 := kr_le c; omega
theorem sr_or : sr c = 0 ∨ kr c = 0 := by have h4 : c.val < 4 := c.isLt; show 256 - 256 * (c.val / 2) = 0 ∨ 256 * (c.val / 2) = 0; omega

theorem wp_stepA (Q : α → sProp 𝕄) (k : Fin 5) (l : List Pay) {k' : PUnit → Prog (TpuEff nD τ sig (Elt F) Λ₀ .tc) α} :
    iprop(ctx X D K ∗ all c cc0_stg0_0 (X c) ∗ all c cc0_stg1_0 (D c) ∗ free c (pChunk k) ∗ ready c (.x k) ∗ debt c (.tr (.x k) :: l))
      ⊢ iprop(((all c cc0_stg0_0 (X c) ∗ all c cc0_stg1_0 (D c) ∗ kept X D c k ∗ flying c (.x k) ∗ debt c l) -∗ wpc c (k' ⟨⟩) Q)
          -∗ wpc c (stepA c (col c) (col_le c) k >>= k') Q) := by
  unfold stepA
  simp only [bind_assoc]
  iintro ⟨#HC, HX, HD, HP, HR, HO⟩ HK
  iapply (wp_multiply c (W k) (w_pos k) pM ![0, col c + OFF k] ![0, OFF k] (inb (by omega) (by have := off_le k; have := col_le c; omega))
    (inb (by omega) (off_le k)) (payP k) (X c) (D c)) $$ [HX HD HP]
  · isplitl [HX]; · iexact HX
    isplitl [HD]; · iexact HD
    iexact HP
  iintro ⟨HX, HD, HP⟩
  have e0 : own c (pChunk k) (prod (W k) ![0, col c + OFF k] (inb (by omega) (by have := off_le k; have := col_le c; omega)) (payP k) (X c) (D c))
      ⊢ (iprop(own c (src c (.x k)) (val X D c (.x k)) ∗ kept X D c k) : sProp 𝕄) :=
    own_halves c pM (inb (by omega) (off_le k)) (sr_le c) (kr_le c) (sr_kr c) (sr_or c) (inb (by have := sr_le c; omega) (off_le k)) (inb (by have := kr_le c; omega) (off_le k)) (PT X D c k)
  ihave HP := e0 $$ HP
  icases HP with ⟨HS, HP⟩
  iapply (wp_sendT X D K c Q (.x k) l) $$ [HS HR HO]
  · isplitr; · iexact HC
    isplitl [HS]; · iexact HS
    isplitl [HR] <;> iassumption
  iintro ⟨HF, HO⟩
  iapply HK
  isplitl [HX]; · iexact HX
  isplitl [HD]; · iexact HD
  isplitl [HP]; · iexact HP
  isplitl [HF] <;> iassumption

theorem wp_stepE (Q : α → sProp 𝕄) (l : List Pay) {k' : PUnit → Prog (TpuEff nD τ sig (Elt F) Λ₀ .tc) α} :
    iprop(ctx X D K ∗ all c cc0_stg0_0 (X c) ∗ all c cc0_stg1_0 (D c) ∗ free c peAll ∗ ready c .e ∗ debt c (.tr .e :: l))
      ⊢ iprop(((all c cc0_stg0_0 (X c) ∗ all c cc0_stg1_0 (D c) ∗ keptE X D c ∗ flying c .e ∗ debt c l) -∗ wpc c (k' ⟨⟩) Q)
          -∗ wpc c (stepE c (oc c) (oc_le c) >>= k') Q) := by
  unfold stepE
  simp only [bind_assoc]
  iintro ⟨#HC, HX, HD, HP, HR, HO⟩ HK
  iapply (wp_multiply c 128 _ peM ![0, oc c + 896] ![0, 0] (inb (by omega) (by have := oc_le c; omega))
    (inb (by omega) (by omega)) k0_pay8 (X c) (D c)) $$ [HX HD HP]
  · isplitl [HX]; · iexact HX
    isplitl [HD]; · iexact HD
    iexact HP
  iintro ⟨HX, HD, HP⟩
  have e0 : own c peAll (prod 128 ![0, oc c + 896] (inb (by omega) (by have := oc_le c; omega)) k0_pay8 (X c) (D c))
      ⊢ (iprop(own c (src c .e) (val X D c .e) ∗ keptE X D c) : sProp 𝕄) :=
    own_halves c peM (inb (by omega) (by omega)) (sr_le c) (kr_le c) (sr_kr c) (sr_or c) (inb (by have := sr_le c; omega) (by omega)) (inb (by have := kr_le c; omega) (by omega)) (PE X D c)
  ihave HP := e0 $$ HP
  icases HP with ⟨HS, HP⟩
  iapply (wp_sendT X D K c Q .e l) $$ [HS HR HO]
  · isplitr; · iexact HC
    isplitl [HS]; · iexact HS
    isplitl [HR] <;> iassumption
  iintro ⟨HF, HO⟩
  iapply HK
  isplitl [HX]; · iexact HX
  isplitl [HD]; · iexact HD
  isplitl [HP]; · iexact HP
  isplitl [HF] <;> iassumption

theorem wp_stepB (Q : α → sProp 𝕄) (k : Fin 4) (l : List Pay) (hl : ∀ p ∈ (.tr (.y k) :: l), lvT (.x k.castSucc) < lvP p) (f : Tile F 256 2048)
    {k' : PUnit → Prog (TpuEff nD τ sig (Elt F) Λ₀ .tc) α} :
    iprop(ctx X D K ∗ coming c (.x k.castSucc) ∗ kept X D c k.castSucc ∗ free c (chunk rM k.castSucc) ∗ ready c (.y k) ∗ all c cc0_stg2_0 f
        ∗ debt c (.tr (.y k) :: l))
      ⊢ iprop(((semVal (rCell c (.x k.castSucc)) 0 ∗ free c (half (kr c) (kr_le c) k.castSucc) ∗ free c (chunk xrM k.castSucc) ∗ flying c (.y k)
          ∗ all c cc0_stg2_0 (oB X D c k.castSucc f) ∗ debt c l) -∗ wpc c (k' ⟨⟩) Q)
          -∗ wpc c (stepB c (col c) (col_le c) k >>= k') Q) := by
  unfold stepB
  simp only [bind_assoc]
  iintro ⟨#HC, HV, HP, HR, HY, HF, HO⟩ HK
  iapply (wp_recvT X D K c Q (.x k.castSucc) (.tr (.y k) :: l) hl) $$ [HV HO]
  · isplitr; · iexact HC
    isplitl [HV] <;> iassumption
  iintro ⟨HB, HZ, HO⟩
  have e1 : own c (dst (.x k.castSucc)) (val X D (peer (.x k.castSucc) c) (.x k.castSucc))
      ⊢ (own c (chunk xrM k.castSucc) (rows (sr (xpeer c)) (sr_le _) (PT X D (xpeer c) k.castSucc)) : sProp 𝕄) := Entails.refl _
  have e2 : own c (chunk rM k.castSucc) (payR k.castSucc (rows (kr c) (kr_le c) (PT X D c k.castSucc)) (rows (sr (xpeer c)) (sr_le _) (PT X D (xpeer c) k.castSucc)))
      ⊢ (own c (src c (.y k)) (val X D c (.y k)) : sProp 𝕄) := Entails.refl _
  ihave HB := e1 $$ HB
  iapply (wp_reduce c (W k.castSucc) (w_pos _) pM xrM rM ![kr c, OFF k.castSucc] ![0, OFF k.castSucc] (inb (by have := kr_le c; omega) (off_le _)) (inb (by omega) (off_le _))
    (payR k.castSucc) (rows (kr c) (kr_le c) (PT X D c k.castSucc)) (rows (sr (xpeer c)) (sr_le _) (PT X D (xpeer c) k.castSucc))) $$ [HP HB HR]
  · isplitl [HP]; · iexact HP
    isplitl [HB]; · iexact HB
    iexact HR
  iintro ⟨HP, HB, HR⟩
  ihave HR := e2 $$ HR
  iapply (wp_sendT X D K c Q (.y k) l) $$ [HR HY HO]
  · isplitr; · iexact HC
    isplitl [HR]; · iexact HR
    isplitl [HY] <;> iassumption
  iintro ⟨HY, HO⟩
  iapply (wp_putOut c (W k.castSucc) (w_pos _) ![0, col c + OFF k.castSucc] (inb (by omega) (by have := off_le k.castSucc; have := col_le c; omega)) (tB X D c k.castSucc) f) $$ HF
  iintro HF
  iapply HK
  isplitl [HZ]; · iexact HZ
  isplitl [HP]; · iapply (own_free c (half (kr c) (kr_le c) k.castSucc) _); iexact HP
  isplitl [HB]; · iapply (own_free c (chunk xrM k.castSucc) _); iexact HB
  isplitl [HY]; · iexact HY
  isplitl [HF]; · iexact HF
  iexact HO

theorem wp_stepC (Q : α → sProp 𝕄) (k : Fin 4) (l : List Pay) (hl : ∀ p ∈ l, lvT (.y k) < lvP p) (f : Tile F 256 2048)
    {k' : PUnit → Prog (TpuEff nD τ sig (Elt F) Λ₀ .tc) α} :
    iprop(ctx X D K ∗ coming c (.y k) ∗ all c cc0_stg2_0 f ∗ debt c l)
      ⊢ iprop(((semVal (rCell c (.y k)) 0 ∗ free c (chunk yrM k.castSucc) ∗ all c cc0_stg2_0 (oC X D c k f) ∗ debt c l) -∗ wpc c (k' ⟨⟩) Q)
          -∗ wpc c (stepC c (oc c) (oc_le c) k >>= k') Q) := by
  unfold stepC
  simp only [bind_assoc]
  iintro ⟨#HC, HV, HF, HO⟩ HK
  iapply (wp_recvT X D K c Q (.y k) l hl) $$ [HV HO]
  · isplitr; · iexact HC
    isplitl [HV] <;> iassumption
  iintro ⟨HB, HZ, HO⟩
  have e1 : own c (dst (.y k)) (val X D (peer (.y k) c) (.y k)) ⊢ (own c (chunk yrM k.castSucc) (val X D (ypeer c) (.y k)) : sProp 𝕄) := Entails.refl _
  ihave HB := e1 $$ HB
  iapply (wp_copyOut c (W k.castSucc) (w_pos _) yrM ![0, OFF k.castSucc] ![0, oc c + OFF k.castSucc] (inb (by omega) (off_le _))
    (inb (by omega) (by have := off_le k.castSucc; have := oc_le c; omega)) (val X D (ypeer c) (.y k)) f) $$ [HB HF]
  · isplitl [HB]; · iexact HB
    iexact HF
  iintro ⟨HB, HF⟩
  iapply HK
  isplitl [HZ]; · iexact HZ
  isplitl [HB]; · iapply (own_free c (chunk yrM k.castSucc) _); iexact HB
  isplitl [HF]; · iexact HF
  iexact HO

theorem wp_lastB (Q : α → sProp 𝕄) (f : Tile F 256 2048) {k' : PUnit → Prog (TpuEff nD τ sig (Elt F) Λ₀ .tc) α} :
    iprop(ctx X D K ∗ coming c (.x 4) ∗ kept X D c 4 ∗ all c cc0_stg2_0 f ∗ debt c [])
      ⊢ iprop(((semVal (rCell c (.x 4)) 0 ∗ free c (half (kr c) (kr_le c) 4) ∗ free c (chunk xrM 4) ∗ all c cc0_stg2_0 (oB X D c 4 f) ∗ debt c []) -∗ wpc c (k' ⟨⟩) Q)
          -∗ wpc c (lastB c (col c) (col_le c) >>= k') Q) := by
  unfold lastB
  simp only [bind_assoc]
  iintro ⟨#HC, HV, HP, HF, HO⟩ HK
  iapply (wp_recvT X D K c Q (.x 4) [] (by simp)) $$ [HV HO]
  · isplitr; · iexact HC
    isplitl [HV] <;> iassumption
  iintro ⟨HB, HZ, HO⟩
  have e1 : own c (dst (.x 4)) (val X D (peer (.x 4) c) (.x 4)) ⊢ (own c (chunk xrM 4) (rows (sr (xpeer c)) (sr_le _) (PT X D (xpeer c) 4)) : sProp 𝕄) := Entails.refl _
  ihave HB := e1 $$ HB
  iapply (wp_reduceOut c (W 4) (w_pos 4) pM xrM ![kr c, OFF 4] ![0, OFF 4] ![0, col c + OFF 4]
    (inb (by have := kr_le c; omega) (off_le _)) (inb (by omega) (off_le _)) (inb (by omega) (by have := off_le 4; have := col_le c; omega))
    (payO 4) (rows (kr c) (kr_le c) (PT X D c 4)) (rows (sr (xpeer c)) (sr_le _) (PT X D (xpeer c) 4)) f) $$ [HP HB HF]
  · isplitl [HP]; · iexact HP
    isplitl [HB]; · iexact HB
    iexact HF
  iintro ⟨HP, HB, HF⟩
  iapply HK
  isplitl [HZ]; · iexact HZ
  isplitl [HP]; · iapply (own_free c (half (kr c) (kr_le c) 4) _); iexact HP
  isplitl [HB]; · iapply (own_free c (chunk xrM 4) _); iexact HB
  isplitl [HF]; · iexact HF
  iexact HO

omit [FloatOps F] in
/-- A whole buffer as its largest rectangle. -/
theorem own_full {n k : ℕ} (m : Mat n k) (h : Inb n k ![0, 0] n k) (T : Tile F n k) : own c m T = (own c (sub m ![0, 0] n k h) T : sProp 𝕄) := by
  have hs : (sub m ![0, 0] n k h).view.set = m.view.set := by
    ext i
    rw [mem_sub, View.set, Finset.mem_map]
    simp only [Matrix.cons_val_zero, Matrix.cons_val_one]
    constructor
    · rintro ⟨x, -, -, e⟩; exact ⟨x, Finset.mem_univ _, e⟩
    · rintro ⟨x, -, e⟩
      have h0 : (x 0).val < n := (x 0).isLt
      have h1 : (x 1).val < k := (x 1).isLt
      exact ⟨x, by omega, by omega, e⟩
  have hr : ∀ f : m.view.ty.Contents (Elt F), (sub m ![0, 0] n k h).view.read (Elt F) f = m.view.read (Elt F) f := by
    intro f; funext i
    show (m.view.read (Elt F) f) _ = (m.view.read (Elt F) f) _
    congr 1
    funext a
    apply Fin.ext
    fin_cases a
    · show 0 + 1 * (i 0).val = (i 0).val; omega
    · show 0 + 1 * (i 1).val = (i 1).val; omega
  unfold own owns
  rw [hs]
  simp only [hr]

theorem wp_lastE (Q : α → sProp 𝕄) (f : Tile F 256 2048) {k' : PUnit → Prog (TpuEff nD τ sig (Elt F) Λ₀ .tc) α} :
    iprop(ctx X D K ∗ coming c .e ∗ keptE X D c ∗ all c cc0_stg2_0 f ∗ debt c [])
      ⊢ iprop(((semVal (rCell c .e) 0 ∗ free c (halfE (kr c) (kr_le c)) ∗ free c xoM ∗ all c cc0_stg2_0 (oE X D c f) ∗ debt c []) -∗ wpc c (k' ⟨⟩) Q)
          -∗ wpc c (lastE c (oc c) (oc_le c) >>= k') Q) := by
  unfold lastE
  simp only [bind_assoc]
  iintro ⟨#HC, HV, HP, HF, HO⟩ HK
  iapply (wp_recvT X D K c Q .e [] (by simp)) $$ [HV HO]
  · isplitr; · iexact HC
    isplitl [HV] <;> iassumption
  iintro ⟨HB, HZ, HO⟩
  have hx : Inb 256 128 ![0, 0] 256 128 := inb (by omega) (by omega)
  have e1 : own c (dst .e) (val X D (peer .e c) .e) ⊢ (own c (sub xoM ![0, 0] 256 128 hx) (rows (sr (xpeer c)) (sr_le _) (PE X D (xpeer c))) : sProp 𝕄) :=
    Entails.of_eq (own_full c xoM hx _)
  ihave HB := e1 $$ HB
  iapply (wp_reduceOut c 128 _ peM xoM ![kr c, 0] ![0, 0] ![0, oc c + 896]
    (inb (by have := kr_le c; omega) (by omega)) hx (inb (by omega) (by have := oc_le c; omega))
    k0_pay12 (rows (kr c) (kr_le c) (PE X D c)) (rows (sr (xpeer c)) (sr_le _) (PE X D (xpeer c))) f) $$ [HP HB HF]
  · isplitl [HP]; · iexact HP
    isplitl [HB]; · iexact HB
    iexact HF
  iintro ⟨HP, HB, HF⟩
  iapply HK
  isplitl [HZ]; · iexact HZ
  isplitl [HP]; · iapply (own_free c (halfE (kr c) (kr_le c)) _); iexact HP
  isplitl [HB]
  · iapply (own_free c xoM (rows (sr (xpeer c)) (sr_le _) (PE X D (xpeer c)))); rw [own_full c xoM hx]; iexact HB
  isplitl [HF]; · iexact HF
  iexact HO

/-! ### The sequence of steps -/

/-- What each transfer needs before, and leaves after. -/
def preX (k : Fin 5) : sProp 𝕄 := iprop(free c (pChunk k) ∗ ready c (.x k) ∗ coming c (.x k) ∗ atPos ER (sCell c (.x k)) 0 ∅ 0)
def preY (k : Fin 4) : sProp 𝕄 := iprop(free c (chunk rM k.castSucc) ∗ ready c (.y k) ∗ coming c (.y k) ∗ atPos ER (sCell c (.y k)) 0 ∅ 0)
def preE : sProp 𝕄 := iprop(free c peAll ∗ ready c .e ∗ coming c .e ∗ atPos ER (sCell c .e) 0 ∅ 0)
def postX (k : Fin 5) : sProp 𝕄 := iprop((free c (half (sr c) (sr_le c) k) ∗ free c (half (kr c) (kr_le c) k)) ∗ free c (chunk xrM k) ∗ semVal (sCell c (.x k)) 0 ∗ semVal (rCell c (.x k)) 0)
def postY (k : Fin 4) : sProp 𝕄 := iprop(free c (chunk rM k.castSucc) ∗ free c (chunk yrM k.castSucc) ∗ semVal (sCell c (.y k)) 0 ∗ semVal (rCell c (.y k)) 0)
def postE : sProp 𝕄 := iprop((free c (halfE (sr c) (sr_le c)) ∗ free c (halfE (kr c) (kr_le c))) ∗ free c xoM ∗ semVal (sCell c .e) 0 ∗ semVal (rCell c .e) 0)

set_option maxHeartbeats 2000000 in
/-- The steps, from the result buffer at `f`: it ends holding the ten tiles, and all buffers and semaphores come back. -/
theorem wp_steps (Q : α → sProp 𝕄) (f : Tile F 256 2048) {k' : PUnit → Prog (TpuEff nD τ sig (Elt F) Λ₀ .tc) α} :
    iprop(ctx X D K ∗ all c cc0_stg0_0 (X c) ∗ all c cc0_stg1_0 (D c) ∗ all c cc0_stg2_0 f
        ∗ (preX c 0 ∗ preX c 1 ∗ preX c 2 ∗ preX c 3 ∗ preX c 4) ∗ (preY c 0 ∗ preY c 1 ∗ preY c 2 ∗ preY c 3) ∗ preE c ∗ debt c pays)
      ⊢ iprop(((all c cc0_stg0_0 (X c) ∗ all c cc0_stg1_0 (D c) ∗ all c cc0_stg2_0 (outFrom X D c f)
          ∗ (postX c 0 ∗ postX c 1 ∗ postX c 2 ∗ postX c 3 ∗ postX c 4) ∗ (postY c 0 ∗ postY c 1 ∗ postY c 2 ∗ postY c 3) ∗ postE c ∗ debt c []) -∗ wpc c (k' ⟨⟩) Q)
          -∗ wpc c (steps c (col c) (oc c) (col_le c) (oc_le c) >>= k') Q) := by
  unfold steps preX preY preE pays
  simp only [bind_assoc]
  iintro ⟨#HC, HX, HD, HF, ⟨⟨HPx0, HRx0, HCx0, HAx0⟩, ⟨HPx1, HRx1, HCx1, HAx1⟩, ⟨HPx2, HRx2, HCx2, HAx2⟩, ⟨HPx3, HRx3, HCx3, HAx3⟩, ⟨HPx4, HRx4, HCx4, HAx4⟩⟩, ⟨⟨HPy0, HRy0, HCy0, HAy0⟩, ⟨HPy1, HRy1, HCy1, HAy1⟩, ⟨HPy2, HRy2, HCy2, HAy2⟩, ⟨HPy3, HRy3, HCy3, HAy3⟩⟩, ⟨HPe, HRe, HCe, HAe⟩, HO⟩ HK
  iapply (wp_stepA X D K c Q 0 [.tr (.x 1), .tr (.y 0), .tr (.x 2), .tr (.y 1), .tr (.x 3), .tr (.y 2), .tr (.x 4), .tr (.y 3), .tr .e]) $$ [HX HD HPx0 HRx0 HO]
  · isplitr; · iexact HC
    isplitl [HX]; · iexact HX
    isplitl [HD]; · iexact HD
    isplitl [HPx0]; · iexact HPx0
    isplitl [HRx0]; · iexact HRx0
    iexact HO
  iintro ⟨HX, HD, HPx0, HFx0, HO⟩
  iapply (wp_stepA X D K c Q 1 [.tr (.y 0), .tr (.x 2), .tr (.y 1), .tr (.x 3), .tr (.y 2), .tr (.x 4), .tr (.y 3), .tr .e]) $$ [HX HD HPx1 HRx1 HO]
  · isplitr; · iexact HC
    isplitl [HX]; · iexact HX
    isplitl [HD]; · iexact HD
    isplitl [HPx1]; · iexact HPx1
    isplitl [HRx1]; · iexact HRx1
    iexact HO
  iintro ⟨HX, HD, HPx1, HFx1, HO⟩
  iapply (wp_stepB X D K c Q 0 [.tr (.x 2), .tr (.y 1), .tr (.x 3), .tr (.y 2), .tr (.x 4), .tr (.y 3), .tr .e] (by decide) _) $$ [HCx0 HPx0 HPy0 HRy0 HF HO]
  · isplitr; · iexact HC
    isplitl [HCx0]; · iexact HCx0
    isplitl [HPx0]; · iexact HPx0
    isplitl [HPy0]; · iexact HPy0
    isplitl [HRy0]; · iexact HRy0
    isplitl [HF]; · iexact HF
    iexact HO
  iintro ⟨HZx0, HPx0, HQx0, HFy0, HF, HO⟩
  iapply (wp_stepA X D K c Q 2 [.tr (.y 1), .tr (.x 3), .tr (.y 2), .tr (.x 4), .tr (.y 3), .tr .e]) $$ [HX HD HPx2 HRx2 HO]
  · isplitr; · iexact HC
    isplitl [HX]; · iexact HX
    isplitl [HD]; · iexact HD
    isplitl [HPx2]; · iexact HPx2
    isplitl [HRx2]; · iexact HRx2
    iexact HO
  iintro ⟨HX, HD, HPx2, HFx2, HO⟩
  iapply (wp_stepB X D K c Q 1 [.tr (.x 3), .tr (.y 2), .tr (.x 4), .tr (.y 3), .tr .e] (by decide) _) $$ [HCx1 HPx1 HPy1 HRy1 HF HO]
  · isplitr; · iexact HC
    isplitl [HCx1]; · iexact HCx1
    isplitl [HPx1]; · iexact HPx1
    isplitl [HPy1]; · iexact HPy1
    isplitl [HRy1]; · iexact HRy1
    isplitl [HF]; · iexact HF
    iexact HO
  iintro ⟨HZx1, HPx1, HQx1, HFy1, HF, HO⟩
  iapply (wp_stepA X D K c Q 3 [.tr (.y 2), .tr (.x 4), .tr (.y 3), .tr .e]) $$ [HX HD HPx3 HRx3 HO]
  · isplitr; · iexact HC
    isplitl [HX]; · iexact HX
    isplitl [HD]; · iexact HD
    isplitl [HPx3]; · iexact HPx3
    isplitl [HRx3]; · iexact HRx3
    iexact HO
  iintro ⟨HX, HD, HPx3, HFx3, HO⟩
  iapply (wp_stepB X D K c Q 2 [.tr (.x 4), .tr (.y 3), .tr .e] (by decide) _) $$ [HCx2 HPx2 HPy2 HRy2 HF HO]
  · isplitr; · iexact HC
    isplitl [HCx2]; · iexact HCx2
    isplitl [HPx2]; · iexact HPx2
    isplitl [HPy2]; · iexact HPy2
    isplitl [HRy2]; · iexact HRy2
    isplitl [HF]; · iexact HF
    iexact HO
  iintro ⟨HZx2, HPx2, HQx2, HFy2, HF, HO⟩
  iapply (wp_stepC X D K c Q 0 [.tr (.x 4), .tr (.y 3), .tr .e] (by decide) _) $$ [HCy0 HF HO]
  · isplitr; · iexact HC
    isplitl [HCy0]; · iexact HCy0
    isplitl [HF]; · iexact HF
    iexact HO
  iintro ⟨HZy0, HQy0, HF, HO⟩
  iapply (wp_stepA X D K c Q 4 [.tr (.y 3), .tr .e]) $$ [HX HD HPx4 HRx4 HO]
  · isplitr; · iexact HC
    isplitl [HX]; · iexact HX
    isplitl [HD]; · iexact HD
    isplitl [HPx4]; · iexact HPx4
    isplitl [HRx4]; · iexact HRx4
    iexact HO
  iintro ⟨HX, HD, HPx4, HFx4, HO⟩
  iapply (wp_stepB X D K c Q 3 [.tr .e] (by decide) _) $$ [HCx3 HPx3 HPy3 HRy3 HF HO]
  · isplitr; · iexact HC
    isplitl [HCx3]; · iexact HCx3
    isplitl [HPx3]; · iexact HPx3
    isplitl [HPy3]; · iexact HPy3
    isplitl [HRy3]; · iexact HRy3
    isplitl [HF]; · iexact HF
    iexact HO
  iintro ⟨HZx3, HPx3, HQx3, HFy3, HF, HO⟩
  iapply (wp_stepC X D K c Q 1 [.tr .e] (by decide) _) $$ [HCy1 HF HO]
  · isplitr; · iexact HC
    isplitl [HCy1]; · iexact HCy1
    isplitl [HF]; · iexact HF
    iexact HO
  iintro ⟨HZy1, HQy1, HF, HO⟩
  iapply (wp_stepE X D K c Q []) $$ [HX HD HPe HRe HO]
  · isplitr; · iexact HC
    isplitl [HX]; · iexact HX
    isplitl [HD]; · iexact HD
    isplitl [HPe]; · iexact HPe
    isplitl [HRe]; · iexact HRe
    iexact HO
  iintro ⟨HX, HD, HPe, HFe, HO⟩
  iapply (wp_lastB X D K c Q _) $$ [HCx4 HPx4 HF HO]
  · isplitr; · iexact HC
    isplitl [HCx4]; · iexact HCx4
    isplitl [HPx4]; · iexact HPx4
    isplitl [HF]; · iexact HF
    iexact HO
  iintro ⟨HZx4, HPx4, HQx4, HF, HO⟩
  iapply (wp_stepC X D K c Q 2 [] (by decide) _) $$ [HCy2 HF HO]
  · isplitr; · iexact HC
    isplitl [HCy2]; · iexact HCy2
    isplitl [HF]; · iexact HF
    iexact HO
  iintro ⟨HZy2, HQy2, HF, HO⟩
  iapply (wp_stepC X D K c Q 3 [] (by decide) _) $$ [HCy3 HF HO]
  · isplitr; · iexact HC
    isplitl [HCy3]; · iexact HCy3
    isplitl [HF]; · iexact HF
    iexact HO
  iintro ⟨HZy3, HQy3, HF, HO⟩
  iapply (wp_lastE X D K c Q _) $$ [HCe HPe HF HO]
  · isplitr; · iexact HC
    isplitl [HCe]; · iexact HCe
    isplitl [HPe]; · iexact HPe
    isplitl [HF]; · iexact HF
    iexact HO
  iintro ⟨HZe, HPe, HQe, HF, HO⟩
  iapply (wp_sentT X D K c Q .e) $$ [HFe HAe HO]
  · isplitr; · iexact HC
    isplitl [HFe]; · iexact HFe
    isplitl [HAe]; · iexact HAe
    iexact HO
  iintro ⟨HSe, HYe, HO⟩
  iapply (wp_sentT X D K c Q (.x 0)) $$ [HFx0 HAx0 HO]
  · isplitr; · iexact HC
    isplitl [HFx0]; · iexact HFx0
    isplitl [HAx0]; · iexact HAx0
    iexact HO
  iintro ⟨HSx0, HYx0, HO⟩
  iapply (wp_sentT X D K c Q (.x 1)) $$ [HFx1 HAx1 HO]
  · isplitr; · iexact HC
    isplitl [HFx1]; · iexact HFx1
    isplitl [HAx1]; · iexact HAx1
    iexact HO
  iintro ⟨HSx1, HYx1, HO⟩
  iapply (wp_sentT X D K c Q (.x 2)) $$ [HFx2 HAx2 HO]
  · isplitr; · iexact HC
    isplitl [HFx2]; · iexact HFx2
    isplitl [HAx2]; · iexact HAx2
    iexact HO
  iintro ⟨HSx2, HYx2, HO⟩
  iapply (wp_sentT X D K c Q (.x 3)) $$ [HFx3 HAx3 HO]
  · isplitr; · iexact HC
    isplitl [HFx3]; · iexact HFx3
    isplitl [HAx3]; · iexact HAx3
    iexact HO
  iintro ⟨HSx3, HYx3, HO⟩
  iapply (wp_sentT X D K c Q (.x 4)) $$ [HFx4 HAx4 HO]
  · isplitr; · iexact HC
    isplitl [HFx4]; · iexact HFx4
    isplitl [HAx4]; · iexact HAx4
    iexact HO
  iintro ⟨HSx4, HYx4, HO⟩
  iapply (wp_sentT X D K c Q (.y 0)) $$ [HFy0 HAy0 HO]
  · isplitr; · iexact HC
    isplitl [HFy0]; · iexact HFy0
    isplitl [HAy0]; · iexact HAy0
    iexact HO
  iintro ⟨HSy0, HYy0, HO⟩
  iapply (wp_sentT X D K c Q (.y 1)) $$ [HFy1 HAy1 HO]
  · isplitr; · iexact HC
    isplitl [HFy1]; · iexact HFy1
    isplitl [HAy1]; · iexact HAy1
    iexact HO
  iintro ⟨HSy1, HYy1, HO⟩
  iapply (wp_sentT X D K c Q (.y 2)) $$ [HFy2 HAy2 HO]
  · isplitr; · iexact HC
    isplitl [HFy2]; · iexact HFy2
    isplitl [HAy2]; · iexact HAy2
    iexact HO
  iintro ⟨HSy2, HYy2, HO⟩
  iapply (wp_sentT X D K c Q (.y 3)) $$ [HFy3 HAy3 HO]
  · isplitr; · iexact HC
    isplitl [HFy3]; · iexact HFy3
    isplitl [HAy3]; · iexact HAy3
    iexact HO
  iintro ⟨HSy3, HYy3, HO⟩
  iapply HK
  unfold postX postY postE
  isplitl [HX]; · iexact HX
  isplitl [HD]; · iexact HD
  isplitl [HF]; · iexact HF
  isplitl [HSx0 HQx0 HYx0 HZx0 HPx0 HSx1 HQx1 HYx1 HZx1 HPx1 HSx2 HQx2 HYx2 HZx2 HPx2 HSx3 HQx3 HYx3 HZx3 HPx3 HSx4 HQx4 HYx4 HZx4 HPx4]
  · isplitl [HSx0 HQx0 HYx0 HZx0 HPx0]
    · isplitl [HSx0 HPx0]
      · isplitl [HSx0]; · iexact HSx0
        iexact HPx0
      isplitl [HQx0]; · iexact HQx0
      isplitl [HYx0]; · iexact HYx0
      iexact HZx0
    isplitl [HSx1 HQx1 HYx1 HZx1 HPx1]
    · isplitl [HSx1 HPx1]
      · isplitl [HSx1]; · iexact HSx1
        iexact HPx1
      isplitl [HQx1]; · iexact HQx1
      isplitl [HYx1]; · iexact HYx1
      iexact HZx1
    isplitl [HSx2 HQx2 HYx2 HZx2 HPx2]
    · isplitl [HSx2 HPx2]
      · isplitl [HSx2]; · iexact HSx2
        iexact HPx2
      isplitl [HQx2]; · iexact HQx2
      isplitl [HYx2]; · iexact HYx2
      iexact HZx2
    isplitl [HSx3 HQx3 HYx3 HZx3 HPx3]
    · isplitl [HSx3 HPx3]
      · isplitl [HSx3]; · iexact HSx3
        iexact HPx3
      isplitl [HQx3]; · iexact HQx3
      isplitl [HYx3]; · iexact HYx3
      iexact HZx3
    isplitl [HSx4 HPx4]
    · isplitl [HSx4]; · iexact HSx4
      iexact HPx4
    isplitl [HQx4]; · iexact HQx4
    isplitl [HYx4]; · iexact HYx4
    iexact HZx4
  isplitl [HSy0 HQy0 HYy0 HZy0 HSy1 HQy1 HYy1 HZy1 HSy2 HQy2 HYy2 HZy2 HSy3 HQy3 HYy3 HZy3]
  · isplitl [HSy0 HQy0 HYy0 HZy0]
    · isplitl [HSy0]; · iexact HSy0
      isplitl [HQy0]; · iexact HQy0
      isplitl [HYy0]; · iexact HYy0
      iexact HZy0
    isplitl [HSy1 HQy1 HYy1 HZy1]
    · isplitl [HSy1]; · iexact HSy1
      isplitl [HQy1]; · iexact HQy1
      isplitl [HYy1]; · iexact HYy1
      iexact HZy1
    isplitl [HSy2 HQy2 HYy2 HZy2]
    · isplitl [HSy2]; · iexact HSy2
      isplitl [HQy2]; · iexact HQy2
      isplitl [HYy2]; · iexact HYy2
      iexact HZy2
    isplitl [HSy3]; · iexact HSy3
    isplitl [HQy3]; · iexact HQy3
    isplitl [HYy3]; · iexact HYy3
    iexact HZy3
  isplitl [HSe HQe HYe HZe HPe]
  · isplitl [HSe HPe]
    · isplitl [HSe]; · iexact HSe
      iexact HPe
    isplitl [HQe]; · iexact HQe
    isplitl [HYe]; · iexact HYe
    iexact HZe
  iexact HO

end Steps

end Cert.TwoAxis

end
-- ==== Proof.Body.lean ====
/-
The whole body of the kernel on one device: the handshake, the steps, and what comes back.
-/
module

public import proofs.«01_k».proof.Proof.Run

@[expose] public section

noncomputable section

namespace Cert.TwoAxis

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### Assertions over all transfers -/

omit [FloatOps F] in
theorem sepAssoc (P Q R : sProp 𝕄) : iprop((P ∗ Q) ∗ R) = iprop(P ∗ Q ∗ R) := equiv_iff.mp ⟨BI.sep_assoc, BI.sep_assoc'⟩

/-- An assertion for each of the ten transfers. -/
def grp (Φ : Tr → sProp 𝕄) : sProp 𝕄 :=
  iprop((bigSep Finset.univ fun k : Fin 5 => Φ (.x k)) ∗ (bigSep Finset.univ fun k : Fin 4 => Φ (.y k)) ∗ Φ .e)

omit [FloatOps F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem grp_eq (Φ : Tr → sProp 𝕄) : grp Φ = iprop((Φ (.x 0) ∗ Φ (.x 1) ∗ Φ (.x 2) ∗ Φ (.x 3) ∗ Φ (.x 4)) ∗ (Φ (.y 0) ∗ Φ (.y 1) ∗ Φ (.y 2) ∗ Φ (.y 3)) ∗ Φ .e) := by
  unfold grp; rw [bigSep_five, bigSep_four]
omit [FloatOps F] in
theorem grp_mono {Φ Ψ : Tr → sProp 𝕄} (h : ∀ t, Φ t ⊢ Ψ t) : grp Φ ⊢ grp Ψ := by
  unfold grp
  iintro ⟨H1, H2, H3⟩
  isplitl [H1]
  · iapply (show (bigSep Finset.univ fun k : Fin 5 => Φ (.x k)) ⊢ _ from bigSep_mono fun k _ => h (.x k)); iexact H1
  isplitl [H2]
  · iapply (show (bigSep Finset.univ fun k : Fin 4 => Φ (.y k)) ⊢ _ from bigSep_mono fun k _ => h (.y k)); iexact H2
  iapply (h .e); iexact H3
omit [FloatOps F] in
theorem grp_sep (Φ Ψ : Tr → sProp 𝕄) : iprop(grp Φ ∗ grp Ψ) ⊢ grp fun t => iprop(Φ t ∗ Ψ t) := by
  unfold grp
  rw [bigSep_sep', bigSep_sep']
  iintro ⟨⟨A1, A2, A3⟩, ⟨B1, B2, B3⟩⟩
  isplitl [A1 B1]; · isplitl [A1] <;> iassumption
  isplitl [A2 B2]; · isplitl [A2] <;> iassumption
  isplitl [A3] <;> iassumption
omit [FloatOps F] in
theorem grp_unsep (Φ Ψ : Tr → sProp 𝕄) : (grp fun t => iprop(Φ t ∗ Ψ t)) ⊢ iprop(grp Φ ∗ grp Ψ) := by
  unfold grp
  rw [bigSep_sep', bigSep_sep']
  iintro ⟨⟨A1, B1⟩, ⟨A2, B2⟩, A3, B3⟩
  isplitl [A1 A2 A3]
  · isplitl [A1]; · iexact A1
    isplitl [A2] <;> iassumption
  isplitl [B1]; · iexact B1
  isplitl [B2] <;> iassumption

omit [FloatOps F] in
/-- The 22 own DMA semaphores: a sender's and a receiver's for each transfer, and two that are not used. -/
theorem own22 (Φ : Fin 22 → sProp 𝕄) :
    bigSep Finset.univ Φ = iprop((grp fun t => Φ (sIdx t)) ∗ (grp fun t => Φ (rIdx t)) ∗ Φ 14 ∗ Φ 19) := by
  rw [grp_eq, grp_eq]
  simp only [sepAssoc]
  exact bigSep_univ_eq_bigSepL [sIdx (.x 0), sIdx (.x 1), sIdx (.x 2), sIdx (.x 3), sIdx (.x 4), sIdx (.y 0), sIdx (.y 1), sIdx (.y 2), sIdx (.y 3), sIdx .e,
    rIdx (.x 0), rIdx (.x 1), rIdx (.x 2), rIdx (.x 3), rIdx (.x 4), rIdx (.y 0), rIdx (.y 1), rIdx (.y 2), rIdx (.y 3), rIdx .e, 14, 19] (by decide) (by decide) Φ

omit [FloatOps F] in
/-- Those and the barrier semaphore. -/
theorem own23 (Φ : Fin 23 → sProp 𝕄) : bigSep Finset.univ Φ = iprop(Φ 0 ∗ bigSep Finset.univ fun j : Fin 22 => Φ j.succ) := by
  rw [bigSep_univ_eq_bigSepL (List.finRange 22) (by decide) (by decide) (fun j : Fin 22 => Φ j.succ)]
  exact bigSep_univ_eq_bigSepL ((0 : Fin 23) :: (List.finRange 22).map Fin.succ) (by decide) (by decide) Φ

/-! ### Buffers in pieces -/

section Pieces
variable (c : Dev nD)

omit [FloatOps F] in
/-- A buffer of 1024 columns is its five chunks. -/
theorem chunks_split {n : ℕ} (q : Mat n 1024) :
    (free (F := F) c q : sProp 𝕄) ⊢ bigSep Finset.univ fun k : Fin 5 => free c (sub q ![0, OFF k] n (W k) (inb (by omega) (off_le k))) := by
  refine free_cover c q (fun k => ![0, OFF k]) (fun _ => n) (fun k => W k) (fun k => inb (by omega) (off_le k)) ?_ ?_
  · intro t t' ht
    refine disjoint_sub q _ _ (.inr (.inr ?_))
    simp only [Matrix.cons_val_one, Matrix.cons_val_zero]
    revert t t'; decide
  · intro x
    have h0 : (x 0).val < n := (x 0).isLt
    have h1 : (x 1).val < 1024 := (x 1).isLt
    have key : ∀ i : ℕ, i < 1024 → ∃ k : Fin 5, OFF k ≤ i ∧ i < OFF k + W k := by
      intro i hi
      by_cases a : i < 256
      · exact ⟨0, Nat.zero_le _, a⟩
      by_cases b : i < 512
      · exact ⟨1, Nat.le_of_not_lt a, b⟩
      by_cases d : i < 768
      · exact ⟨2, Nat.le_of_not_lt b, d⟩
      by_cases e : i < 896
      · exact ⟨3, Nat.le_of_not_lt d, e⟩
      exact ⟨4, Nat.le_of_not_lt e, hi⟩
    obtain ⟨k, hk, hk'⟩ := key _ h1
    exact ⟨k, ⟨Nat.zero_le _, by simp only [Matrix.cons_val_zero]; omega⟩, hk, hk'⟩

omit [FloatOps F] in
theorem chunks_join {n : ℕ} (q : Mat n 1024) [Nonempty (q.view.ty.Contents (Elt F))] :
    (bigSep Finset.univ fun k : Fin 5 => free c (sub q ![0, OFF k] n (W k) (inb (by omega) (off_le k)))) ⊢ (free (F := F) c q : sProp 𝕄) := by
  refine free_uncover c q (fun k => ![0, OFF k]) (fun _ => n) (fun k => W k) (fun k => inb (by omega) (off_le k)) ?_ ?_
  · intro t t' ht
    refine disjoint_sub q _ _ (.inr (.inr ?_))
    simp only [Matrix.cons_val_one, Matrix.cons_val_zero]
    revert t t'; decide
  · intro x
    have h0 : (x 0).val < n := (x 0).isLt
    have h1 : (x 1).val < 1024 := (x 1).isLt
    have key : ∀ i : ℕ, i < 1024 → ∃ k : Fin 5, OFF k ≤ i ∧ i < OFF k + W k := by
      intro i hi
      by_cases a : i < 256
      · exact ⟨0, Nat.zero_le _, a⟩
      by_cases b : i < 512
      · exact ⟨1, Nat.le_of_not_lt a, b⟩
      by_cases d : i < 768
      · exact ⟨2, Nat.le_of_not_lt b, d⟩
      by_cases e : i < 896
      · exact ⟨3, Nat.le_of_not_lt d, e⟩
      exact ⟨4, Nat.le_of_not_lt e, hi⟩
    obtain ⟨k, hk, hk'⟩ := key _ h1
    exact ⟨k, ⟨Nat.zero_le _, by simp only [Matrix.cons_val_zero]; omega⟩, hk, hk'⟩

omit [FloatOps F] in
theorem rChunks (q : Mat 256 1024) :
    (bigSep Finset.univ fun k : Fin 5 => (free (F := F) c (chunk q k) : sProp 𝕄)) = iprop((bigSep Finset.univ fun k : Fin 4 => free c (chunk q k.castSucc)) ∗ free c (chunk q 4)) := by
  rw [bigSep_five, bigSep_four]
  simp only [sepAssoc]
  rfl

omit [FloatOps F] in
theorem free_full {n k : ℕ} (m : Mat n k) (h : Inb n k ![0, 0] n k) : free c (sub m ![0, 0] n k h) = (free (F := F) c m : sProp 𝕄) := by
  have hs : (sub m ![0, 0] n k h).view.set = m.view.set := by
    ext i
    rw [mem_sub, View.set, Finset.mem_map]
    simp only [Matrix.cons_val_zero, Matrix.cons_val_one]
    constructor
    · rintro ⟨x, -, -, e⟩; exact ⟨x, Finset.mem_univ _, e⟩
    · rintro ⟨x, -, e⟩
      have h0 : (x 0).val < n := (x 0).isLt
      have h1 : (x 1).val < k := (x 1).isLt
      exact ⟨x, by omega, by omega, e⟩
  unfold free
  rw [hs]

/-- The scratch buffers, whatever they hold. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

omit [FloatOps F] in
theorem scratch_eq : scratch c = (iprop(free c pM ∗ free c xrM ∗ free c rM ∗ free c yrM ∗ free c peM ∗ free c xoM) : sProp 𝕄) := by
  unfold scratch free
  simp only [Memref.view_whole, View.set_whole]

/-- Where device `c` puts what transfer `t` is to carry before the kernel's arithmetic. -/
def room : Tr → sProp 𝕄
  | .x k => free c (pChunk k)
  | .y k => free c (chunk rM k.castSucc)
  | .e => free c peAll
/-- What is left of it in the end. -/
def left : Tr → sProp 𝕄
  | .x k => iprop(free c (half (sr c) (sr_le c) k) ∗ free c (half (kr c) (kr_le c) k))
  | .y k => free c (chunk rM k.castSucc)
  | .e => iprop(free c (halfE (sr c) (sr_le c)) ∗ free c (halfE (kr c) (kr_le c)))

omit [FloatOps F] in
theorem left_room (t : Tr) : left c t ⊢ (room c t : sProp 𝕄) := by
  cases t with
  | x k =>
    exact free_halves c pM (inb (by omega) (off_le k)) (sr_kr c) (sr_or c) (inb (by have := sr_le c; omega) (off_le k)) (inb (by have := kr_le c; omega) (off_le k))
  | y k => exact Entails.refl _
  | e =>
    exact free_halves c peM (inb (by omega) (by omega)) (sr_kr c) (sr_or c) (inb (by have := sr_le c; omega) (by omega)) (inb (by have := kr_le c; omega) (by omega))

omit [FloatOps F] in
theorem scratch_split : scratch c ⊢ (iprop(grp (room c) ∗ grp (fun t => free c (dst t)) ∗ free c (chunk rM 4) ∗ free c (chunk yrM 4)) : sProp 𝕄) := by
  rw [scratch_eq]
  unfold grp
  dsimp only [room, dst]
  iintro ⟨H0, H1, H2, H3, H4, H5⟩
  ihave H0 := (chunks_split c pM) $$ H0
  ihave H1 := (chunks_split c xrM) $$ H1
  ihave H2 := ((chunks_split c rM).trans (Entails.of_eq (rChunks c rM))) $$ H2
  ihave H3 := ((chunks_split c yrM).trans (Entails.of_eq (rChunks c yrM))) $$ H3
  ihave H4 := (Entails.of_eq (free_full c peM (inb (by omega) (by omega))).symm) $$ H4
  icases H2 with ⟨H2, HR⟩
  icases H3 with ⟨H3, HY⟩
  isplitl [H0 H2 H4]
  · isplitl [H0]; · iexact H0
    isplitl [H2]; · iexact H2
    iexact H4
  isplitl [H1 H3 H5]
  · isplitl [H1]; · iexact H1
    isplitl [H3]; · iexact H3
    iexact H5
  isplitl [HR] <;> iassumption

omit [FloatOps F] in
theorem scratch_join (v : Elt F .f32) :
    iprop(grp (room c) ∗ grp (fun t => free c (dst t)) ∗ free c (chunk rM 4) ∗ free c (chunk yrM 4)) ⊢ (scratch c : sProp 𝕄) := by
  haveI : Nonempty (pM.view.ty.Contents (Elt F)) := ⟨fun _ => v⟩
  haveI : Nonempty (xrM.view.ty.Contents (Elt F)) := ⟨fun _ => v⟩
  haveI : Nonempty (rM.view.ty.Contents (Elt F)) := ⟨fun _ => v⟩
  haveI : Nonempty (yrM.view.ty.Contents (Elt F)) := ⟨fun _ => v⟩
  rw [scratch_eq]
  unfold grp
  dsimp only [room, dst]
  iintro ⟨⟨H0, H2, H4⟩, ⟨H1, H3, H5⟩, HR, HY⟩
  isplitl [H0]; · iapply (chunks_join c pM); iexact H0
  isplitl [H1]; · iapply (chunks_join c xrM); iexact H1
  isplitl [H2 HR]
  · iapply ((Entails.of_eq (rChunks c rM).symm).trans (chunks_join c rM))
    isplitl [H2]
    · iexact H2
    · iexact HR
  isplitl [H3 HY]
  · iapply ((Entails.of_eq (rChunks c yrM).symm).trans (chunks_join c yrM))
    isplitl [H3]
    · iexact H3
    · iexact HY
  isplitl [H4]; · iapply (Entails.of_eq (free_full c peM (inb (by omega) (by omega)))); iexact H4
  iexact H5

/-! ### The handshake's payloads -/

omit [FloatOps F] in
theorem barPay_out : (grp fun t => free (F := F) c (dst t)) ⊢ (iprop(barPay (xpeer c) false ∗ barPay (ypeer c) true) : sProp 𝕄) := by
  unfold barPay grp
  simp only [peer, xpeer_xpeer, ypeer_ypeer, Bool.false_eq_true, if_false, if_true]
  iintro ⟨H1, H2, H3⟩
  isplitl [H1 H3]
  · isplitl [H1] <;> iassumption
  iexact H2
omit [FloatOps F] in
theorem barPay_in : iprop(barPay c false ∗ barPay c true) ⊢ (grp fun t => free (F := F) (peer t c) (dst t) : sProp 𝕄) := by
  unfold barPay grp
  simp only [Bool.false_eq_true, if_false, if_true]
  iintro ⟨⟨H1, H3⟩, H2⟩
  isplitl [H1]; · iexact H1
  isplitl [H2] <;> iassumption

end Pieces

/-! ### The body -/

section Whole
variable (X : Dev nD → Tile F 512 512) (D : Dev nD → Tile F 512 2048) (K : Dev nD × Fin 23 → ℕ) (c : Dev nD)

/-- The two semaphores that are not used. -/
abbrev idleA : GSem nD τ sig := dCell c (⟨17, by decide⟩ : Fin 25)
abbrev idleB : GSem nD τ sig := dCell c (⟨22, by decide⟩ : Fin 25)

/-- What a device starts with: that its cells are at their first round, the right to make each of its payments once, and
the credit for what it will be paid. -/
def lin : sProp 𝕄 :=
  iprop((atPos ER (barCell c) 0 ∅ 0 ∗ (grp fun t => atPos ER (sCell c t) 0 ∅ 0) ∗ (grp fun t => atPos ER (rCell c t) 0 ∅ 0) ∗ atPos ER (idleA c) 0 ∅ 0 ∗ atPos ER (idleB c) 0 ∅ 0)
    ∗ (dutyTok ER (barCell (xpeer c)) 0 false ∗ dutyTok ER (barCell (ypeer c)) 0 true ∗ (grp fun t => dutyTok ER (sCell c t) 0 false)
      ∗ grp fun t => dutyTok ER (rCell (peer t c) t) 0 false)
    ∗ cred (tallyAt (barCell c) () 2) ∗ grp fun t => cred (tallyAt (rCell c t) () (amt t)))

/-- Its semaphores, all at zero again. -/
def sems : sProp 𝕄 :=
  iprop(semVal (barCell c) 0 ∗ (grp fun t => semVal (sCell c t) 0) ∗ (grp fun t => semVal (rCell c t) 0) ∗ semVal (idleA c) 0 ∗ semVal (idleB c) 0)

theorem steps_congr {a a' b b' : ℕ} (ha : a ≤ 1024) (hb : b ≤ 1024) (ea : a = a') (eb : b = b') :
    steps (F := F) c a b ha hb = steps c a' b' (ea ▸ ha) (eb ▸ hb) := by subst ea; subst eb; rfl

/-- What each transfer needs and leaves. -/
def pre (t : Tr) : sProp 𝕄 := iprop(room c t ∗ ready c t ∗ coming c t ∗ atPos ER (sCell c t) 0 ∅ 0)
def post (t : Tr) : sProp 𝕄 := iprop(left c t ∗ free c (dst t) ∗ semVal (sCell c t) 0 ∗ semVal (rCell c t) 0)

theorem wp_branch (Q : PUnit → sProp 𝕄) (f : Tile F 256 2048) {p : Body F} {k' : PUnit → Body F} (hp : p = steps c (col c) (oc c) (col_le c) (oc_le c)) :
    iprop(ctx X D K ∗ all c cc0_stg0_0 (X c) ∗ all c cc0_stg1_0 (D c) ∗ all c cc0_stg2_0 f ∗ grp (pre (F := F) c) ∗ debt c pays)
      ⊢ iprop(((all c cc0_stg0_0 (X c) ∗ all c cc0_stg1_0 (D c) ∗ all c cc0_stg2_0 (outFrom X D c f) ∗ grp (post (F := F) c) ∗ debt c []) -∗ wpc c (k' ⟨⟩) Q)
          -∗ wpc c (p >>= k') Q) := by
  subst hp
  rw [grp_eq, grp_eq, show pre (F := F) c .e = preE c from rfl, show post (F := F) c .e = postE c from rfl]
  iintro ⟨#HC, HX, HD, HF, ⟨H1, H2, H3⟩, HO⟩ HK
  iapply (wp_steps X D K c Q f) $$ [HX HD HF H1 H2 H3 HO]
  · isplitr; · iexact HC
    isplitl [HX]; · iexact HX
    isplitl [HD]; · iexact HD
    isplitl [HF]; · iexact HF
    isplitl [H1]; · iexact H1
    isplitl [H2]; · iexact H2
    isplitl [H3]; · iexact H3
    iexact HO
  iintro ⟨HX, HD, HF, H1, H2, H3, HO⟩
  iapply HK
  isplitl [HX]; · iexact HX
  isplitl [HD]; · iexact HD
  isplitl [HF]; · iexact HF
  isplitl [H1 H2 H3]
  · isplitl [H1]; · iexact H1
    isplitl [H2]; · iexact H2
    iexact H3
  iexact HO

theorem cond1_iff : k0_cond1 c = 1#1 ↔ c.val % 2 = 0 := by revert c; decide
theorem cond2_iff : k0_cond2 c = 1#1 ↔ c.val % 2 = 1 := by revert c; decide

theorem wpc_pure (Q : PUnit → sProp 𝕄) : Q ⟨⟩ ⊢ wpc (F := F) c (pure ⟨⟩) Q := by
  show _ ⊢ wp frame (wpE (defs₀ (F := F)) 𝒱₀ (c : Thread nD τ) none) Set.univ (pure ⟨⟩) Q
  rw [Prog.pure_eq_ret, wp_ret]
  iintro H; imodintro; iexact H

/-- The body after the handshake. -/
def rest (d0 : Dev nD) : Body F := do
  if h : k0_cond1 d0 = 1#1 then do
    printed0 d0 h
    pure ⟨⟩
  else do
    pure ⟨⟩
  if h : k0_cond2 d0 = 1#1 then do
    printed1 d0 h
    pure ⟨⟩
  else do
    pure ⟨⟩
  pure ⟨⟩

theorem whole_eq : whole (F := F) = (do
    let d0 : Dev nD ← Prog.lift .deviceId
    semSignalWord (⟨k0_dev1 d0, k0_dev1_lt d0⟩ : Dev nD) barS 1#32
    semSignalWord (⟨k0_dev2 d0, k0_dev2_lt d0⟩ : Dev nD) barS 1#32
    semWaitWord barS 2#32
    rest d0) := rfl

/-- After the handshake: the branch of the device's second coordinate. -/
theorem wp_rest (Q : PUnit → sProp 𝕄) (f : Tile F 256 2048) :
    iprop(ctx X D K ∗ all c cc0_stg0_0 (X c) ∗ all c cc0_stg1_0 (D c) ∗ all c cc0_stg2_0 f ∗ grp (pre (F := F) c) ∗ debt c pays)
      ⊢ iprop(((all c cc0_stg0_0 (X c) ∗ all c cc0_stg1_0 (D c) ∗ all c cc0_stg2_0 (outFrom X D c f) ∗ grp (post (F := F) c) ∗ debt c []) -∗ Q ⟨⟩)
          -∗ wpc c (rest c) Q) := by
  unfold rest
  rcases Nat.mod_two_eq_zero_or_one c.val with hc | hc
  · have h1 := (cond1_iff c).mpr hc
    have h2 : ¬ k0_cond2 c = 1#1 := fun h => by have := (cond2_iff c).mp h; omega
    rw [dif_pos h1, dif_neg h2]
    simp only [bind_assoc, pure_bind]
    iintro H HK
    have e : printed0 (F := F) c h1 = steps c (col c) (oc c) (col_le c) (oc_le c) :=
      (printed0_eq c h1).trans (steps_congr c _ _ (by unfold col; omega) (by unfold oc; omega))
    iapply (wp_branch X D K c Q f e) $$ H
    iintro H
    iapply (wpc_pure c Q)
    iapply HK; iexact H
  · have h1 : ¬ k0_cond1 c = 1#1 := fun h => by have := (cond1_iff c).mp h; omega
    have h2 := (cond2_iff c).mpr hc
    rw [dif_neg h1, dif_pos h2]
    simp only [bind_assoc, pure_bind]
    iintro H HK
    have e : printed1 (F := F) c h2 = steps c (col c) (oc c) (col_le c) (oc_le c) :=
      (printed1_eq c h2).trans (steps_congr c _ _ (by unfold col; omega) (by unfold oc; omega))
    iapply (wp_branch X D K c Q f e) $$ H
    iintro H
    iapply (wpc_pure c Q)
    iapply HK; iexact H

/-- The pieces gathered per transfer, before and after. -/
theorem pre_intro : iprop(grp (room c) ∗ (grp fun t => free (peer t c) (dst t)) ∗ (grp fun t => dutyTok ER (sCell c t) 0 false)
      ∗ (grp fun t => dutyTok ER (rCell (peer t c) t) 0 false) ∗ (grp fun t => cred (tallyAt (rCell c t) () (amt t)))
      ∗ (grp fun t => atPos ER (rCell c t) 0 ∅ 0) ∗ grp fun t => atPos ER (sCell c t) 0 ∅ 0) ⊢ (grp (pre c) : sProp 𝕄) := by
  unfold grp pre ready coming
  simp only [bigSep_sep']
  iintro ⟨⟨a1, a2, a3⟩, ⟨b1, b2, b3⟩, ⟨c1, c2, c3⟩, ⟨d1, d2, d3⟩, ⟨e1, e2, e3⟩, ⟨f1, f2, f3⟩, ⟨g1, g2, g3⟩⟩
  isplitl [a1 b1 c1 d1 e1 f1 g1]
  · isplitl [a1]; · iexact a1
    isplitl [b1 c1 d1]
    · isplitl [b1]; · iexact b1
      isplitl [c1] <;> iassumption
    isplitl [e1 f1]
    · isplitl [e1] <;> iassumption
    iexact g1
  isplitl [a2 b2 c2 d2 e2 f2 g2]
  · isplitl [a2]; · iexact a2
    isplitl [b2 c2 d2]
    · isplitl [b2]; · iexact b2
      isplitl [c2] <;> iassumption
    isplitl [e2 f2]
    · isplitl [e2] <;> iassumption
    iexact g2
  · isplitl [a3]; · iexact a3
    isplitl [b3 c3 d3]
    · isplitl [b3]; · iexact b3
      isplitl [c3] <;> iassumption
    isplitl [e3 f3]
    · isplitl [e3] <;> iassumption
    iexact g3

theorem post_elim : grp (post c) ⊢ (iprop(grp (room c) ∗ (grp fun t => free c (dst t)) ∗ (grp fun t => semVal (sCell c t) 0) ∗ grp fun t => semVal (rCell c t) 0) : sProp 𝕄) := by
  have e : grp (post c) ⊢ (grp fun t => iprop(room c t ∗ free c (dst t) ∗ semVal (sCell c t) 0 ∗ semVal (rCell c t) 0) : sProp 𝕄) :=
    grp_mono fun t => by unfold post; exact sep_mono_left (left_room c t)
  refine e.trans ?_
  unfold grp
  simp only [bigSep_sep']
  iintro ⟨⟨a1, b1, c1, d1⟩, ⟨a2, b2, c2, d2⟩, a3, b3, c3, d3⟩
  isplitl [a1 a2 a3]
  · isplitl [a1]; · iexact a1
    isplitl [a2] <;> iassumption
  isplitl [b1 b2 b3]
  · isplitl [b1]; · iexact b1
    isplitl [b2] <;> iassumption
  isplitl [c1 c2 c3]
  · isplitl [c1]; · iexact c1
    isplitl [c2] <;> iassumption
  · isplitl [d1]; · iexact d1
    isplitl [d2] <;> iassumption

set_option maxHeartbeats 1000000 in
/-- The whole body: from the buffers, with the result at `f`, to the result with its ten tiles, all else given back. -/
theorem wp_whole (Q : PUnit → sProp 𝕄) (f : Tile F 256 2048) :
    iprop(ctx X D K ∗ lin c ∗ scratch c ∗ all c cc0_stg0_0 (X c) ∗ all c cc0_stg1_0 (D c) ∗ all c cc0_stg2_0 f ∗ debt c allPays)
      ⊢ iprop(((sems c ∗ scratch c ∗ all c cc0_stg0_0 (X c) ∗ all c cc0_stg1_0 (D c) ∗ all c cc0_stg2_0 (outFrom X D c f) ∗ debt c []) -∗ Q ⟨⟩)
          -∗ wpc c (whole (F := F)) Q) := by
  rw [whole_eq]
  unfold lin allPays debt
  show _ ⊢ iprop(_ -∗ wp frame (wpE (defs₀ (F := F)) 𝒱₀ (c : Thread nD τ) none) Set.univ _ Q)
  simp only [semSignalWord, semWaitWord, Prog.lift, Prog.bind_op, Prog.bind_ret, wp_deviceId]
  rw [show (⟨k0_dev1 c, k0_dev1_lt c⟩ : Dev nD) = xpeer c from Fin.ext (k0_dev1_eq c), show (⟨k0_dev2 c, k0_dev2_lt c⟩ : Dev nD) = ypeer c from Fin.ext (k0_dev2_eq c)]
  iintro ⟨#HC, ⟨⟨HaB, HaS, HaR, HaI, HaJ⟩, ⟨HtX, HtY, HtS, HtR⟩, HcB, HcR⟩, Hscr, HX, HD, HF, ⟨%Wt, HO⟩⟩ HK
  ihave Hscr := (scratch_split c) $$ Hscr
  icases Hscr with ⟨Hroom, Hdst, Hr4, Hy4⟩
  ihave Hdst := (barPay_out c) $$ Hdst
  icases Hdst with ⟨HpX, HpY⟩
  iapply (Rounds.wp_signal 𝒱₀ ER (Rd X D) (c : Thread nD τ) none (dst := (xpeer c : Thread nD τ)) (κ := K (xpeer c, 0))
      (d := false) (by rw [duties_bar]; exact Finset.mem_univ _) ((amount_bar X D (xpeer c) false).trans (by decide)) () (owe c (.by' :: pays)) rfl)
    $$ [HO HtX HpX]
  · isplitr; · iapply (inv_bar X D K (xpeer c)); iexact HC
    isplitl [HO]; · iexact HO
    isplitl [HtX]; · iexact HtX
    isplitl [HpX]; · iapply (Entails.of_eq (show barPay (xpeer c) false = (Rd X D).payload (barCell (xpeer c)) 0 false from rfl)); iexact HpX
    iapply (reached_bar X D K (xpeer c)); iexact HC
  iintro HO
  iapply (Rounds.wp_signal 𝒱₀ ER (Rd X D) (c : Thread nD τ) none (dst := (ypeer c : Thread nD τ)) (κ := K (ypeer c, 0))
      (d := true) (by rw [duties_bar]; exact Finset.mem_univ _) ((amount_bar X D (ypeer c) true).trans (by decide)) () (owe c pays) rfl)
    $$ [HO HtY HpY]
  · isplitr; · iapply (inv_bar X D K (ypeer c)); iexact HC
    isplitl [HO]; · iexact HO
    isplitl [HtY]; · iexact HtY
    isplitl [HpY]; · iapply (Entails.of_eq (show barPay (ypeer c) true = (Rd X D).payload (barCell (ypeer c)) 0 true from rfl)); iexact HpY
    iapply (reached_bar X D K (ypeer c)); iexact HC
  iintro HO
  iapply (Rounds.wp_wait_rest_token 𝒱₀ ER (Rd X D) (c : Thread nD τ) none (κ := K (c, 0))
      (wpE_semWait_eq 𝒱₀ (c : Thread nD τ) none Set.univ) (Set.mem_univ _) () (O := owe c pays) (W := Wt) (R := 0) (m := 0) (T := ∅)
      (by rw [expect_bar]; decide)) $$ [HcB HO HaB]
  · isplitr; · iapply (inv_bar X D K c); iexact HC
    isplitl [HcB]; · iexact HcB
    isplitl [HO]; · iexact HO
    isplitr
    · iapply (mayWait c (.reg barS) pays (by decide)); iapply (lev_at X D K); iexact HC
    iexact HaB
  iintro ⟨HO, HaB, -, Hpay⟩
  ihave Hpay := (Entails.of_eq (rest_bar X D c)) $$ Hpay
  ihave Hpay := (barPay_in c) $$ Hpay
  imod (Rounds.cell_close ER (Rd X D) (Set.mem_univ (K (c, 0))) (fun h => h) (R := 0 + 1) (duties_later X D (barCell c))) $$ [HaB] with HzB
  · isplitr; · iapply (inv_bar X D K c); iexact HC
    iexact HaB
  imod (Rounds.cell_close ER (Rd X D) (Set.mem_univ (K (c, 15))) (fun h => h) (R := 0) (duties_none X D c (⟨17, by decide⟩ : Fin 25) rfl)) $$ [HaI] with HzI
  · isplitr; · iapply (inv_at X D K (c, 15)); iexact HC
    iexact HaI
  imod (Rounds.cell_close ER (Rd X D) (Set.mem_univ (K (c, 20))) (fun h => h) (R := 0) (duties_none X D c (⟨22, by decide⟩ : Fin 25) rfl)) $$ [HaJ] with HzJ
  · isplitr; · iapply (inv_at X D K (c, 20)); iexact HC
    iexact HaJ
  ihave Hpre := (pre_intro c) $$ [Hroom Hpay HtS HtR HcR HaR HaS]
  · isplitl [Hroom]; · iexact Hroom
    isplitl [Hpay]; · iexact Hpay
    isplitl [HtS]; · iexact HtS
    isplitl [HtR]; · iexact HtR
    isplitl [HcR]; · iexact HcR
    isplitl [HaR]; · iexact HaR
    iexact HaS
  iapply (wp_rest X D K c Q f) $$ [HX HD HF Hpre HO]
  · isplitr; · iexact HC
    isplitl [HX]; · iexact HX
    isplitl [HD]; · iexact HD
    isplitl [HF]; · iexact HF
    isplitl [Hpre]; · iexact Hpre
    unfold debt
    iexists _; iexact HO
  iintro ⟨HX, HD, HF, Hpost, HO⟩
  ihave Hpost := (post_elim c) $$ Hpost
  icases Hpost with ⟨Hroom, Hdst, HzS, HzR⟩
  iapply HK
  unfold sems
  isplitl [HzB HzS HzR HzI HzJ]
  · isplitl [HzB]; · iexact HzB
    isplitl [HzS]; · iexact HzS
    isplitl [HzR]; · iexact HzR
    isplitl [HzI]; · iexact HzI
    iexact HzJ
  isplitl [Hroom Hdst Hr4 Hy4]
  · iapply (scratch_join c (X c fun a => ⟨0, by fin_cases a <;> decide⟩))
    isplitl [Hroom]; · iexact Hroom
    isplitl [Hdst]; · iexact Hdst
    isplitl [Hr4]; · iexact Hr4
    iexact Hy4
  isplitl [HX]; · iexact HX
  isplitl [HD]; · iexact HD
  isplitl [HF]; · iexact HF
  unfold debt
  iexact HO

end Whole

end Cert.TwoAxis

end
-- ==== Proof.Out.lean ====
/-
What the result buffer holds in the end: each of the ten tiles where it was stored, and nothing else.
-/
module

public import proofs.«01_k».proof.Proof.Body

@[expose] public section

noncomputable section

namespace Cert.TwoAxis

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### One tile -/

section Put
variable {w q : ℕ} (ho : Inb 256 2048 ![0, q] 256 w) (v : Tile F 256 w) (f : Tile F 256 2048) (i : (⟨2, ![256, 2048]⟩ : Shape).Idx)

/-- Where element `i` of the result lies in a tile that starts at column `q`. -/
def inTile (w q : ℕ) (i : (⟨2, ![256, 2048]⟩ : Shape).Idx) (h : (i 1).val < q + w) (hq : q ≤ (i 1).val) : (⟨2, ![256, w]⟩ : Shape).Idx :=
  fun a => match a with
  | ⟨0, _⟩ => i 0
  | ⟨1, _⟩ => (⟨(i 1).val - q, by omega⟩ : Fin w)

omit [FloatOps F] in
theorem put_in (h : (i 1).val < q + w) (hq : q ≤ (i 1).val) : put w ![0, q] ho v f i = v (inTile w q i h hq) := by
  have e : i = (oM.access (box (n := 256) (k := 2048) ![0, q] 256 w ho)).emb (inTile w q i h hq) := by
    funext a
    apply Fin.ext
    fin_cases a
    · show (i 0).val = 0 + 1 * (i 0).val; omega
    · show (i 1).val = q + 1 * ((i 1).val - q); omega
  show (oM.access (box (n := 256) (k := 2048) ![0, q] 256 w ho)).write (Elt F) f v Finset.univ i = _
  conv_lhs => rw [e]
  exact View.write_emb_of_mem (v := oM.access (box (n := 256) (k := 2048) ![0, q] 256 w ho)) f v (Finset.mem_univ _)

omit [FloatOps F] in
theorem put_out (h : ¬ (q ≤ (i 1).val ∧ (i 1).val < q + w)) : put w ![0, q] ho v f i = f i := by
  refine View.write_of_not_mem (v := oM.access (box (n := 256) (k := 2048) ![0, q] 256 w ho)) f v _ fun hi => h ?_
  obtain ⟨x, -, rfl⟩ := Finset.mem_map.mp hi
  have hx : (x 1).val < w := (x 1).isLt
  constructor
  · show q ≤ q + 1 * (x 1).val; omega
  · show q + 1 * (x 1).val < q + w; omega

omit [FloatOps F] in
/-- Two buffers that agree at an element, unless the tile holds it, agree there after the tile is stored. -/
theorem put_agree (g : Tile F 256 2048) (h : ¬ (q ≤ (i 1).val ∧ (i 1).val < q + w) → f i = g i) : put w ![0, q] ho v f i = put w ![0, q] ho v g i := by
  by_cases hi : q ≤ (i 1).val ∧ (i 1).val < q + w
  · rw [put_in ho v f i hi.2 hi.1, put_in ho v g i hi.2 hi.1]
  · rw [put_out ho v f i hi, put_out ho v g i hi, h hi]

omit [FloatOps F] in
/-- A tile whose elements are those of `G` agrees with it where it lies. -/
theorem put_spec (G : Tile F 256 2048) (hv : ∀ (h : (i 1).val < q + w) (hq : q ≤ (i 1).val), v (inTile w q i h hq) = G i)
    (h : ¬ (q ≤ (i 1).val ∧ (i 1).val < q + w) → f i = G i) : put w ![0, q] ho v f i = G i := by
  by_cases hi : q ≤ (i 1).val ∧ (i 1).val < q + w
  · rw [put_in ho v f i hi.2 hi.1, hv]
  · rw [put_out ho v f i hi, h hi]

end Put

/-! ### All tiles -/

section Out
variable (X : Dev nD → Tile F 512 512) (D : Dev nD → Tile F 512 2048) (c : Dev nD)

/-- Every column of the result is in one of the ten tiles. -/
theorem covered (j : ℕ) (hj : j < 2048)
    (hB : ∀ k : Fin 5, ¬ (col c + OFF k ≤ j ∧ j < col c + OFF k + W k)) (hC : ∀ k : Fin 4, ¬ (oc c + OFF k.castSucc ≤ j ∧ j < oc c + OFF k.castSucc + W k.castSucc))
    (hE : ¬ (oc c + 896 ≤ j ∧ j < oc c + 896 + 128)) : False := by
  have b0 : ¬ (col c + 0 ≤ j ∧ j < col c + 0 + 256) := hB 0
  have b1 : ¬ (col c + 256 ≤ j ∧ j < col c + 256 + 256) := hB 1
  have b2 : ¬ (col c + 512 ≤ j ∧ j < col c + 512 + 256) := hB 2
  have b3 : ¬ (col c + 768 ≤ j ∧ j < col c + 768 + 128) := hB 3
  have b4 : ¬ (col c + 896 ≤ j ∧ j < col c + 896 + 128) := hB 4
  have c0 : ¬ (oc c + 0 ≤ j ∧ j < oc c + 0 + 256) := hC 0
  have c1 : ¬ (oc c + 256 ≤ j ∧ j < oc c + 256 + 256) := hC 1
  have c2 : ¬ (oc c + 512 ≤ j ∧ j < oc c + 512 + 256) := hC 2
  have c3 : ¬ (oc c + 768 ≤ j ∧ j < oc c + 768 + 128) := hC 3
  clear hB hC
  have h2 : (col c = 0 ∧ oc c = 1024) ∨ (col c = 1024 ∧ oc c = 0) := by
    unfold col oc
    have : c.val % 2 = 0 ∨ c.val % 2 = 1 := by omega
    rcases this with h | h <;> rw [h] <;> decide
  omega

/-- The result does not depend on what its buffer held. -/
theorem outFrom_indep (f g : Tile F 256 2048) : outFrom X D c f = outFrom X D c g := by
  funext i
  have hj : (i 1).val < 2048 := (i 1).isLt
  unfold outFrom oE oC oB
  refine put_agree _ _ _ i _ fun e => put_agree _ _ _ i _ fun c3 => put_agree _ _ _ i _ fun c2 => put_agree _ _ _ i _ fun b4 => put_agree _ _ _ i _ fun c1 =>
    put_agree _ _ _ i _ fun b3 => put_agree _ _ _ i _ fun c0 => put_agree _ _ _ i _ fun b2 => put_agree _ _ _ i _ fun b1 => put_agree _ _ _ i _ fun b0 => ?_
  refine (covered c _ hj (fun k => ?_) (fun k => ?_) e).elim
  · fin_cases k
    exacts [b0, b1, b2, b3, b4]
  · fin_cases k
    exacts [c0, c1, c2, c3]

/-- If every tile agrees with `G` where it lies, the result is `G`. -/
theorem outFrom_spec (f G : Tile F 256 2048)
    (hB : ∀ k i h hq, tB X D c k (inTile (W k) (col c + OFF k) i h hq) = G i)
    (hC : ∀ (k : Fin 4) i h hq, val X D (ypeer c) (.y k) (inTile (W k.castSucc) (oc c + OFF k.castSucc) i h hq) = G i)
    (hE : ∀ i h hq, tE X D c (inTile 128 (oc c + 896) i h hq) = G i) : outFrom X D c f = G := by
  funext i
  have hj : (i 1).val < 2048 := (i 1).isLt
  unfold outFrom oE oC oB
  refine put_spec _ _ _ i _ (hE i) fun e => put_spec _ _ _ i _ (hC 3 i) fun c3 => put_spec _ _ _ i _ (hC 2 i) fun c2 => put_spec _ _ _ i _ (hB 4 i) fun b4 =>
    put_spec _ _ _ i _ (hC 1 i) fun c1 => put_spec _ _ _ i _ (hB 3 i) fun b3 => put_spec _ _ _ i _ (hC 0 i) fun c0 => put_spec _ _ _ i _ (hB 2 i) fun b2 =>
    put_spec _ _ _ i _ (hB 1 i) fun b1 => put_spec _ _ _ i _ (hB 0 i) fun b0 => ?_
  refine (covered c _ hj (fun k => ?_) (fun k => ?_) e).elim
  · fin_cases k
    exacts [b0, b1, b2, b3, b4]
  · fin_cases k
    exacts [c0, c1, c2, c3]

end Out

end Cert.TwoAxis

end
-- ==== Proof.Launch.lean ====
/-
The launch: the four devices' cells and credits are set up from nothing, each device runs its kernel, and in the end
every window's array holds what is stated and every semaphore is at zero.
-/
module

public import proofs.«01_k».proof.Proof.Out
public import proofs.«01_k».proof.Proof.Gen.KernelIdeal.Launch
public import proofs.«01_k».proof.Proof.Gen.KernelIdeal.Points

@[expose] public section

noncomputable section

namespace Cert.TwoAxis

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch state: the given memory, every counter zero. -/
abbrev s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The two operands of device `c`. -/
def xIn (c : Dev nD) : Tile F 512 512 := (win0_0.blk (0 : Fin 1)).view.read (Elt F) (m ((c : Thread nD τ).loc main_arg0))
def dIn (c : Dev nD) : Tile F 512 2048 := (win0_1.blk (0 : Fin 1)).view.read (Elt F) (m ((c : Thread nD τ).loc main_arg1))

/-- The result of device `c`: no element of it depends on the contents it starts from here. -/
def outAt (c : Dev nD) : Tile F 256 2048 :=
  outFrom (xIn m) (dIn m) c fun _ => xIn m c fun a => ⟨0, by fin_cases a <;> decide⟩

/-! ### What a device starts from -/

/-- Its positions at the first round of its cells, and the rights to its payments. -/
def posn (c : Dev nD) : sProp 𝕄 :=
  iprop(atPos ER (barCell c) 0 ∅ 0 ∗ (grp fun t => atPos ER (sCell c t) 0 ∅ 0) ∗ (grp fun t => atPos ER (rCell c t) 0 ∅ 0) ∗ atPos ER (idleA c) 0 ∅ 0 ∗ atPos ER (idleB c) 0 ∅ 0)
def payToks (c : Dev nD) : sProp 𝕄 :=
  iprop(dutyTok ER (barCell (xpeer c)) 0 false ∗ dutyTok ER (barCell (ypeer c)) 0 true ∗ (grp fun t => dutyTok ER (sCell c t) 0 false)
    ∗ grp fun t => dutyTok ER (rCell (peer t c) t) 0 false)
def credit (c : Dev nD) : sProp 𝕄 := iprop(cred (tallyAt (barCell c) () 2) ∗ grp fun t => cred (tallyAt (rCell c t) () (amt t)))

omit [FloatOps F] in
theorem lin_eq (c : Dev nD) : (lin c : sProp 𝕄) = iprop(posn c ∗ payToks c ∗ credit c) := rfl

def ghost (K : Dev nD × Fin 23 → ℕ) (c : Dev nD) : sProp 𝕄 := iprop(records (xIn m) (dIn m) K ∗ posn c ∗ payToks c)
def start (c : Dev nD) : sProp 𝕄 := iprop((∃ K, ghost m K c) ∗ credit c ∗ levAts L lv)

def Φ₀ (c : Dev nD) : sProp 𝕄 := iprop(start m c ∗ scratch c)
def Φ₁ (c : Dev nD) : sProp 𝕄 := iprop(sems c ∗ scratch c)

/-- What a device owes at the start. -/
def O₀ (c : Dev nD) : CellTallies nD τ sig Unit := owe c allPays

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => dIn m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) (((c : Dev nD) : Thread nD τ).loc b), ⌜f = v⌝ ∗ (((c : Thread nD τ).loc b) ↦{fullShare} f)) := by
  unfold owns; simp only [Memref.view_whole, View.read_whole, View.set_whole]

/-! ### The body -/

section Body

abbrev stg (c : Dev nD) (b : Ref sig .tc) (v : b.ty.Contents (Elt F)) : sProp 𝕄 :=
  iprop(∃ f : Buf (Elt F) (((c : Dev nD) : Thread nD τ).loc b), ⌜f = v⌝ ∗ (((c : Thread nD τ).loc b) ↦{fullShare} f))

def bodyPre (c : Dev nD) : sProp 𝕄 :=
  iprop(Φ₀ m c
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xIn m c) ∗ stg c cc0_stg1_0 (dIn m c) ∗ stg c cc0_stg2_0 (outAt m c))

theorem sound_body (c : Dev nD) : bodyPre m ρ c ⊢ wpc c (whole (F := F)) fun _ => bodyPost m ρ c := by
  unfold bodyPre Φ₀ start ghost
  iintro ⟨⟨⟨⟨%K, #HR, Hp, Ht⟩, Hc, #Hl⟩, HS⟩, Ho, ⟨%d0, %g0, %hg0, Hx⟩, ⟨%d1, %g1, %hg1, Hd⟩, ⟨%d2, %g2, %hg2, Hf⟩⟩
  have hx : g0 = xIn m c := by rw [hg0]; unfold Dat.before; rw [if_pos (fetch_0 t₀)]; rfl
  have hd : g1 = dIn m c := by rw [hg1]; unfold Dat.before; rw [if_pos (fetch_1 t₀)]; rfl
  subst hx
  subst hd
  unfold Dat.owesAt Pipeline.owesWithin
  icases Ho with ⟨%Wt, %hW, HO⟩
  rw [show (dats m ρ 0 c).owed t₀.castSucc = owe c allPays from rfl]
  iapply (wp_whole (xIn m) (dIn m) K c (fun _ => bodyPost m ρ c) g2) $$ [Hp Ht Hc HS HO Hx Hd Hf]
  · isplitr
    · unfold ctx
      isplitr; · iexact HR
      iexact Hl
    isplitl [Hp Ht Hc]
    · rw [lin_eq]
      isplitl [Hp]; · iexact Hp
      isplitl [Ht]; · iexact Ht
      iexact Hc
    isplitl [HS]; · iexact HS
    isplitl [Hx]; · iexact Hx
    isplitl [Hd]; · iexact Hd
    isplitl [Hf]; · iexact Hf
    unfold debt
    iexists Wt; iexact HO
  iintro ⟨Hz, HS, Hx, Hd, Hf, HO⟩
  unfold bodyPost Φ₁ Dat.owesAt Pipeline.owesWithin debt
  icases HO with ⟨%Wu, HO⟩
  rw [show (dats m ρ 0 c).owed t₀.succ = owe c [] from rfl]
  isplitl [Hz HS]
  · isplitl [Hz] <;> iassumption
  isplitl [HO]
  · iexists Wu
    isplitr; · ipureintro; exact fun _ _ => Or.inl trivial
    iexact HO
  isplitl [Hx]
  · iexists _; isplitr; · (ipureintro; rfl)
    iexact Hx
  isplitl [Hd]
  · iexists _; isplitr; · (ipureintro; rfl)
    iexact Hd
  iexists _; isplitr; · (ipureintro; exact outFrom_indep (xIn m) (dIn m) c g2 _)
  iexact Hf

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  have h := sound_body m ρ c
  rw [← body_eq, ← cc0_body_eq_skeleton] at h
  simp only [owns_whole_eq]
  exact h

end Body

end Cert.TwoAxis

end
-- ==== Proof.Setup.lean ====
/-
The ghost state of the launch: every cell of every device is set up at its first round, and the right to each payment is
handed to the device that makes it; so is the credit for what each device will be paid.
-/
module

public import proofs.«01_k».proof.Proof.Launch
public import Idealize.ShloMosaic.Lib.Pipeline.CollectiveSegs

@[expose] public section

noncomputable section

namespace Cert.TwoAxis

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ### The cells -/

theorem csem_injective : Function.Injective csem := by decide
theorem kcell_injective : Function.Injective (kcell : Dev nD × Fin 23 → GSem nD τ sig) := fun a b h =>
  Prod.ext (congrArg (fun g : GSem nD τ sig => g.1.1) h) (csem_injective (congrArg Prod.snd h))
def ringCells : Finset (GSem nD τ sig) := Finset.univ.map ⟨kcell, kcell_injective⟩

/-- The rights minted: two for each cell, of which some are never used. -/
abbrev tokOf (x : (Dev nD × Fin 23) × Bool) : GSem nD τ sig × ℕ × Bool := (kcell x.1, 0, x.2)
theorem tokOf_injective : Function.Injective (tokOf : (Dev nD × Fin 23) × Bool → GSem nD τ sig × ℕ × Bool) := fun a b h =>
  Prod.ext (kcell_injective (congrArg Prod.fst h)) (congrArg (fun x : GSem nD τ sig × ℕ × Bool => x.2.2) h)
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The rights to pay device `c`'s own cells. -/
def toks (c : Dev nD) : sProp 𝕄 :=
  bigSep Finset.univ fun k : Fin 23 => bigSep Finset.univ fun b : Bool => dutyTok ER (kcell (c, k)) 0 b

def G (c : Dev nD) : sProp 𝕄 :=
  iprop((bigSep Finset.univ fun k : Fin 23 => roundState ER (Rd (xIn m) (dIn m)) (kcell (c, k)) 0)
    ∗ (bigSep Finset.univ fun k : Fin 23 => iprop(atPos ER (kcell (c, k)) 0 ∅ 0 ∗ reached ER (kcell (c, k)) 0)) ∗ toks c)
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 23 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]; rfl
  iintro HX
  imod (Rounds.fund ER (Rd (xIn m) (dIn m)) ringCells ringToks) $$ HX with ⟨Hst, Hr, Hat, Htok⟩
  imodintro
  ihave Hst' := (Entails.of_eq (hX fun g => roundState ER (Rd (xIn m) (dIn m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### One device's cells, by what they are for -/

omit [FloatOps F] in
theorem own_cells (Φ : GSem nD τ sig → sProp 𝕄) (c : Dev nD) :
    (bigSep Finset.univ fun k : Fin 23 => Φ (kcell (c, k)))
      = iprop(Φ (barCell c) ∗ (grp fun t => Φ (sCell c t)) ∗ (grp fun t => Φ (rCell c t)) ∗ Φ (idleA c) ∗ Φ (idleB c)) := by
  rw [own23, own22]
  simp only [kcell_s, kcell_r]
  rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun j : Fin 22 => semVal (kcell (c, j.succ)) 0 := by
  unfold Pipeline.ownSems0
  exact bigSep_congr fun j _ => by rw [show kcell (c, j.succ) = ((c : Thread nD τ), osem j) from by show (_, _) = (_, _); rw [csem_succ]]
omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
/-- All of a device's semaphores at zero. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 23 => semVal (kcell (c, k)) 0 : sProp 𝕄) := by
  rw [ownSems0_eq, unscopedSems0_eq, own23]
omit [FloatOps F] in
theorem sems_eq (c : Dev nD) : (sems c : sProp 𝕄) = bigSep Finset.univ fun k : Fin 23 => semVal (kcell (c, k)) 0 := by
  rw [own_cells (fun g => semVal g 0)]; rfl

/-! ### The invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (xIn m) (dIn m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 23 => semVal (kcell (c, k)) 0) ∗ bigSep Finset.univ fun k : Fin 23 => roundState ER (Rd (xIn m) (dIn m)) (kcell (c, k)) 0)
      ⊢ (|={Set.univ}=> bigSep Finset.univ fun k => iprop(∃ κ : ℕ, cellInv ER (Rd (xIn m) (dIn m)) κ (kcell (c, k))) : sProp 𝕄) from by
        rw [← bigSep_sep']
        exact (bigSep_mono fun k _ => (Rounds.body_intro ER (Rd (xIn m) (dIn m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### Handing out the rights -/

/-- Each neighbour relation pairs the devices up. -/
def peerEquiv (t : Tr) : Dev nD ≃ Dev nD := ⟨peer t, peer t, peer_peer t, peer_peer t⟩

omit [FloatOps F] in
theorem grp_devs (Φ : Dev nD → Tr → sProp 𝕄) :
    (bigSep Finset.univ fun c => grp (Φ c)) = grp fun t => bigSep Finset.univ fun c => Φ c t := by
  simp only [grp_eq, bigSep_sep']

omit [FloatOps F] in
/-- A family over the receivers is one over the senders. -/
theorem grp_around (Φ : Dev nD → Tr → sProp 𝕄) :
    (bigSep Finset.univ fun c => grp (Φ c)) = bigSep Finset.univ fun c => grp fun t => Φ (peer t c) t := by
  rw [grp_devs, grp_devs (fun c t => Φ (peer t c) t)]
  refine congrArg grp (funext fun t => ?_)
  exact bigSep_univ_equiv (peerEquiv t) (fun c => Φ c t)

omit [FloatOps F] in
theorem tok_false (c : Dev nD) (k : Fin 23) : (bigSep Finset.univ fun b : Bool => dutyTok ER (kcell (c, k)) 0 b) ⊢ (dutyTok ER (kcell (c, k)) 0 false : sProp 𝕄) :=
  bigSep_elim (Φ := fun b : Bool => (dutyTok ER (kcell (c, k)) 0 b : sProp 𝕄)) (Finset.mem_univ false)

omit [FloatOps F] in
/-- The rights that are used, by cell. -/
theorem toks_used (c : Dev nD) : toks c ⊢ (iprop((dutyTok ER (barCell c) 0 false ∗ dutyTok ER (barCell c) 0 true)
    ∗ (grp fun t => dutyTok ER (sCell c t) 0 false) ∗ grp fun t => dutyTok ER (rCell c t) 0 false) : sProp 𝕄) := by
  unfold toks
  rw [own23, bigSep_univ_eq_bigSepL [false, true] (by decide) (by decide) (fun b : Bool => (dutyTok ER (kcell (c, 0)) 0 b : sProp 𝕄)), bigSepL_cons_cons, bigSepL_singleton]
  iintro ⟨H0, H⟩
  ihave H' := (show _ ⊢ (bigSep Finset.univ fun j : Fin 22 => dutyTok ER (kcell (c, j.succ)) 0 false : sProp 𝕄) from bigSep_mono fun j _ => tok_false c j.succ) $$ H
  ihave Hg := (Entails.of_eq (own22 (fun j : Fin 22 => (dutyTok ER (kcell (c, j.succ)) 0 false : sProp 𝕄)))) $$ H'
  simp only [kcell_s, kcell_r]
  icases Hg with ⟨Hs, Hr, -, -⟩
  isplitl [H0]; · rw [← kcell_bar c]; iexact H0
  isplitl [Hs] <;> iassumption

omit [FloatOps F] in
theorem toks_around : (bigSep Finset.univ fun c : Dev nD => (toks c : sProp 𝕄)) ⊢ bigSep Finset.univ fun c : Dev nD => payToks c := by
  have h : (bigSep Finset.univ fun c : Dev nD => (iprop((dutyTok ER (barCell c) 0 false ∗ dutyTok ER (barCell c) 0 true)
      ∗ (grp fun t => dutyTok ER (sCell c t) 0 false) ∗ grp fun t => dutyTok ER (rCell c t) 0 false) : sProp 𝕄)) ⊢ bigSep Finset.univ fun c : Dev nD => payToks c := by
    refine Entails.of_eq ?_
    unfold payToks
    rw [bigSep_sep', bigSep_sep', bigSep_sep', bigSep_sep', bigSep_sep', bigSep_sep',
      bigSep_univ_equiv (peerEquiv (.x 0)) (fun c : Dev nD => (dutyTok ER (barCell c) 0 false : sProp 𝕄)),
      bigSep_univ_equiv (peerEquiv (.y 0)) (fun c : Dev nD => (dutyTok ER (barCell c) 0 true : sProp 𝕄)),
      grp_around (fun c t => (dutyTok ER (rCell c t) 0 false : sProp 𝕄)), sepAssoc]
    rfl
  exact BI.Entails.trans (bigSep_mono fun c _ => toks_used c) h

omit [FloatOps F] in
/-- What may be used again and again is there for every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (xIn m) (dIn m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 23 => iprop(∃ κ : ℕ, cellInv ER (Rd (xIn m) (dIn m)) κ (kcell ck))),
    bigSep_congr (s := Finset.univ) (fun (c : Dev nD) _ => bigSep_sep' Finset.univ (fun k : Fin 23 => (atPos ER (kcell (c, k)) 0 ∅ 0 : sProp 𝕄)) (fun k => reached ER (kcell (c, k)) 0)),
    bigSep_sep', ← bigSep_univ_prod (fun ck : Dev nD × Fin 23 => (reached ER (kcell ck) 0 : sProp 𝕄))]
  iintro ⟨HI, ⟨Hat, #HR⟩, Htok⟩
  ihave HK := (BI.bigSep_exists_pi Finset.univ (fun (ck : Dev nD × Fin 23) (κ : ℕ) => (cellInv ER (Rd (xIn m) (dIn m)) κ (kcell ck) : sProp 𝕄))) $$ HI
  icases HK with ⟨%K, #HI⟩
  ihave Htk := (toks_around (F := F)) $$ Htok
  have hG (c : Dev nD) : iprop(records (xIn m) (dIn m) K ∗ (posn c ∗ payToks c)) ⊢ G' m c := by
    unfold G' ghost
    iintro H
    iexists K; iexact H
  iapply (with_persistent (R := records (xIn m) (dIn m) K) fun c _ => hG c)
  isplitr
  · unfold records; isplitl; · iexact HI
    iexact HR
  · have hp : (bigSep Finset.univ fun c : Dev nD => bigSep Finset.univ fun k : Fin 23 => (atPos ER (kcell (c, k)) 0 ∅ 0 : sProp 𝕄))
        = bigSep Finset.univ fun c : Dev nD => posn c := bigSep_congr fun c _ => own_cells (fun g => atPos ER g 0 ∅ 0) c
    ihave Hat' := (Entails.of_eq hp) $$ Hat
    iapply (Entails.of_eq (bigSep_sep' Finset.univ (fun c : Dev nD => (posn c : sProp 𝕄)) payToks).symm)
    isplitl [Hat']; · iexact Hat'
    iexact Htk

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The credit -/

theorem owe_apply (d : Dev nD) (l : List Pay) (g : GSem nD τ sig) :
    owe d l g () = (l.map fun p => if g = payCell d p then payAmt p else 0).sum := by
  induction l with
  | nil => rfl
  | cons p l ih =>
    unfold owe
    rw [Pi.add_apply, Finsupp.add_apply, tallyAt_apply, ih, List.map_cons, List.sum_cons, Nat.add_comm]
    simp only [and_true]

theorem rS_injective : Function.Injective rS := fun a b h => by
  have := congrArg tag h
  rw [tag_r, tag_r] at this
  exact (Prod.mk.inj (Option.some.inj this)).2

theorem bar_pay (c d : Dev nD) (p : Pay) : barCell c = payCell d p ↔ (p = .bx ∧ d = xpeer c) ∨ (p = .by' ∧ d = ypeer c) := by
  cases p with
  | bx =>
    refine ⟨fun h => Or.inl ⟨rfl, ?_⟩, fun h => ?_⟩
    · have e : c = xpeer d := congrArg (fun g : GSem nD τ sig => g.1.1) h
      rw [e, xpeer_xpeer]
    · rcases h with ⟨-, rfl⟩ | ⟨h, -⟩
      · show barCell c = barCell (xpeer (xpeer c)); rw [xpeer_xpeer]
      · cases h
  | by' =>
    refine ⟨fun h => Or.inr ⟨rfl, ?_⟩, fun h => ?_⟩
    · have e : c = ypeer d := congrArg (fun g : GSem nD τ sig => g.1.1) h
      rw [e, ypeer_ypeer]
    · rcases h with ⟨h, -⟩ | ⟨-, rfl⟩
      · cases h
      · show barCell c = barCell (ypeer (ypeer c)); rw [ypeer_ypeer]
  | tr t =>
    refine ⟨fun h => ?_, fun h => ?_⟩
    · have e : (SemLoc.reg barS : SemLoc sig) = .dma (rS t) := congrArg Prod.snd h
      cases e
    · rcases h with ⟨h, -⟩ | ⟨h, -⟩ <;> cases h

theorem recv_pay (c d : Dev nD) (t : Tr) (p : Pay) : rCell c t = payCell d p ↔ p = .tr t ∧ d = peer t c := by
  cases p with
  | tr t' =>
    refine ⟨fun h => ?_, fun h => ?_⟩
    · have e : t = t' := rS_injective (SemLoc.dma.inj (congrArg Prod.snd h))
      subst e
      have e : c = peer t d := congrArg (fun g : GSem nD τ sig => g.1.1) h
      exact ⟨rfl, by rw [e, peer_peer]⟩
    · obtain ⟨h, rfl⟩ := h
      cases h
      show rCell c t = rCell (peer t (peer t c)) t
      rw [peer_peer]
  | bx => exact ⟨fun h => (by cases congrArg Prod.snd h), fun h => (by cases h.1)⟩
  | by' => exact ⟨fun h => (by cases congrArg Prod.snd h), fun h => (by cases h.1)⟩

theorem owed_bar (d c : Dev nD) : O₀ d (barCell c) () = (if d = xpeer c then 1 else 0) + (if d = ypeer c then 1 else 0) := by
  unfold O₀
  rw [owe_apply]
  simp only [bar_pay]
  simp [allPays, pays, payAmt]

theorem owed_recv (d c : Dev nD) (t : Tr) : O₀ d (rCell c t) () = if d = peer t c then amt t else 0 := by
  unfold O₀
  rw [owe_apply]
  simp only [recv_pay]
  by_cases h : d = peer t c
  · rw [if_pos h]
    simp only [h, and_true]
    rcases t with k | k | _
    · fin_cases k <;> simp [allPays, pays, payAmt]
    · fin_cases k <;> simp [allPays, pays, payAmt]
    · simp [allPays, pays, payAmt]
  · rw [if_neg h]
    simp [h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xpeer c) fun _ => 1, Finset.sum_ite_eq' Finset.univ (ypeer c) fun _ => 1, if_pos (Finset.mem_univ _), if_pos (Finset.mem_univ _)]

theorem launch_recv (c : Dev nD) (t : Tr) :
    tallyOn (rCell c t) (launchCredit (Pipeline.owing O₀) 0 (rCell c t)) = (tallyAt (rCell c t) () (amt t) : CellTallies nD τ sig Unit) := by
  unfold tallyAt; refine congrArg _ (Finsupp.ext fun u => ?_); cases u
  rw [Pipeline.launchCredit_owing, Finsupp.single_eq_same, Finset.sum_congr rfl fun d _ => owed_recv d c t, Finset.sum_ite_eq' Finset.univ (peer t c) fun _ => amt t,
    if_pos (Finset.mem_univ _)]

omit [FloatOps F] in
theorem creds (c : Dev nD) : (Pipeline.launchCred O₀ c : sProp 𝕄) ⊢ credit c := by
  unfold Pipeline.launchCred credit
  have h1 := bigSep_subset (s := (Finset.univ : Finset (SemLoc sig))) (t := Finset.univ.map ⟨csem, csem_injective⟩) (Finset.subset_univ _)
    (Φ := fun sm : SemLoc sig => (cred (tallyOn ((c : Thread nD τ), sm) (launchCredit (Pipeline.owing O₀) 0 ((c : Thread nD τ), sm))) : sProp 𝕄))
  rw [bigSep_map] at h1
  have h2 := own_cells (F := F) (fun g => cred (tallyOn g (launchCredit (Pipeline.owing O₀) 0 g))) c
  refine h1.trans ((Entails.of_eq h2).trans ?_)
  rw [launch_bar]
  simp only [launch_recv]
  iintro ⟨H1, -, H2, -, -⟩
  isplitl [H1] <;> iassumption

/-! ### Side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [sems_eq, ← sems0_eq]
  iintro ⟨⟨H1, H2⟩, Hr⟩
  isplitl [H1]; · iexact H1
  isplitl [H2] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · fin_cases w <;> fin_cases s <;> exact mayWait c _ allPays (by decide)
    · fin_cases w <;> fin_cases s <;> exact mayWait c _ [] (by decide)

/-! ### The run -/

/-- What a window's array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair run from zero counters ends, with the windows' arrays as stated and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.TwoAxis

end
-- ==== Proof.Final.lean ====
/-
What the arrays hold when the program has ended: the arguments as they were, the result what the body stored.
-/
module

public import proofs.«01_k».proof.Proof.Setup
public import Idealize.ShloMosaic.Lib.Pipeline.ValueKit.Geometry

@[expose] public section

noncomputable section

namespace Cert.TwoAxis

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg) (c : Dev nD)

/-! ### A block that is the whole array -/

omit [FloatOps F] in
theorem xIn_eq : xIn m c = m ((c : Thread nD τ).loc main_arg0) := by
  funext i
  show m ((c : Thread nD τ).loc main_arg0) ((win0_0.blk (0 : Fin 1)).view.emb i) = m ((c : Thread nD τ).loc main_arg0) i
  congr 1
  funext a
  apply Fin.ext
  fin_cases a
  · show 0 + 1 * (i 0).val = (i 0).val; omega
  · show 0 + 1 * (i 1).val = (i 1).val; omega

omit [FloatOps F] in
theorem dIn_eq : dIn m c = m ((c : Thread nD τ).loc main_arg1) := by
  funext i
  show m ((c : Thread nD τ).loc main_arg1) ((win0_1.blk (0 : Fin 1)).view.emb i) = m ((c : Thread nD τ).loc main_arg1) i
  congr 1
  funext a
  apply Fin.ext
  fin_cases a
  · show 0 + 1 * (i 0).val = (i 0).val; omega
  · show 0 + 1 * (i 1).val = (i 1).val; omega

/-! ### The three arrays -/

theorem final_x : finalA m ρ c (0 : Fin 3) = m ((c : Thread nD τ).loc main_arg0) := (dats m ρ 0 c).arrAt_in (0 : Fin 3) rfl _
theorem final_d : finalA m ρ c (1 : Fin 3) = m ((c : Thread nD τ).loc main_arg1) := (dats m ρ 0 c).arrAt_in (1 : Fin 3) rfl _

theorem final_o : finalA m ρ c (2 : Fin 3) = outAt m c := by
  refine (dats m ρ 0 c).arrAt_eq_of_covers (2 : Fin 3) _ (by decide +kernel) fun t hf y => ?_
  obtain rfl := fin_N t
  show outAt m c y = outAt m c ((win0_2.blk (0 : Fin 1)).view.emb y)
  congr 1
  funext a
  apply Fin.ext
  fin_cases a
  · show (y 0).val = 0 + 1 * (y 0).val; omega
  · show (y 1).val = 0 + 1 * (y 1).val; omega

/-- Every run ends with the result what the body stored, the arguments unchanged and every counter at zero. -/
theorem run_arrays : θ_run defs (onTc (τ := τ) (main (F := F))) (s₀ m ρ) (fun r => (∀ c : Dev nD,
      r.2.mem ((c : Thread nD τ).loc main_v1) = outAt m c ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_o m ρ c), (h.1 c (0 : Fin 3)).trans (final_x m ρ c),
    (h.1 c (1 : Fin 3)).trans (final_d m ρ c)⟩, h.2⟩) (run_main m ρ)

end Cert.TwoAxis

end
-- ==== Proof.Frames.lean ====
/-
The three frame claims. The program and its idealization have the same text, so one run serves both.
-/
module

public import proofs.«01_k».proof.Proof.Final
public import proofs.«01_k».proof.Defs
public import proofs.«01_k».proof.Proof.Gen.Kernel
public import proofs.«01_k».proof.Proof.Gen.ReferenceIdeal.Run

@[expose] public section

noncomputable section

namespace Cert.TwoAxis

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem frame_ideal : Cert.quiescent_KernelIdeal := fun m ρ _ =>
  (θ_run defs _ _).mono (fun _ h => ⟨fun c => (h.1 c).2, h.2⟩) (run_arrays (F := Ideal) m ρ)

/-- The two programs' body tables are one. -/
theorem bodies_eq : Cert.Kernel.defs₀ (F := Bits) = defs₀ (F := Bits) := by
  unfold Cert.Kernel.defs₀ defs₀
  congr 1
  funext l
  match l with
  | 0 => rfl
theorem tables_eq : Cert.Kernel.defs (F := Bits) = defs (F := Bits) := congrArg (Pipeline.defs pcfgs) bodies_eq

theorem frame_kernel : Cert.quiescent_Kernel := fun m ρ _ => by
  have h : θ_run (defs (F := Bits)) (onTc (τ := τ) (main (F := Bits))) ⟨m, fun _ => 0, ρ⟩ (fun r => (∀ c : Dev nD,
      r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
    (θ_run defs _ _).mono (fun _ h => ⟨fun c => (h.1 c).2, h.2⟩) (run_arrays (F := Bits) m ρ)
  rw [← tables_eq] at h
  exact h

/-- The reference declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.TwoAxis

end
-- ==== Proof.Value.lean ====
/-
The result over the extended reals: every tile of a device's result is its own half of the products' sum plus its
neighbour's, both being sums over the neighbours' blocks of the contracted dimension.
-/
module

public import proofs.«01_k».proof.Proof.Out
public import Idealize.ShloMosaic.PureOps.Ideal.Laws
public import Idealize.ShloMosaic.Lib.ValueIdxCore
public import Idealize.ShloMosaic.Lib.Pipeline.Value

@[expose] public section

noncomputable section

namespace Cert.TwoAxis

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ### A product that contracts the rows of both operands -/

/-- The product's description, for any width. -/
abbrev rowDot (w : ℕ) (h : DotDims.WF ⟨2, ![512, 512]⟩ ⟨2, ![512, w]⟩ ⟨2, ![512, w]⟩ [0] [0] [1] [1] [] []) :
    DotDims ⟨2, ![512, 512]⟩ ⟨2, ![512, w]⟩ ⟨2, ![512, w]⟩ := ⟨[0], [0], [1], [1], [], [], h⟩

theorem rowDot_apply (w : ℕ) (h : DotDims.WF ⟨2, ![512, 512]⟩ ⟨2, ![512, w]⟩ ⟨2, ![512, w]⟩ [0] [0] [1] [1] [] [])
    (x : FVec Ideal ⟨2, ![512, 512]⟩ .f32) (e : FVec Ideal ⟨2, ![512, w]⟩ .f32) (j : (⟨2, ![512, w]⟩ : Shape).Idx) :
    FloatOps.matmul (rowDot w h) none x e (constant (⟨2, ![512, w]⟩ : Shape) .f32 0x00000000#32) j = ∑ k : Fin 512, x (ix2 k (j 0)) * e (ix2 k (j 1)) := by
  rw [Ideal.matmul_constant_zero_apply, ← Equiv.sum_comp (contrEquiv1 (rowDot w h) 512 rfl rfl).symm]
  refine Finset.sum_congr rfl fun k _ => ?_
  have hk := contrEquiv1_symm_val (rowDot w h) 512 rfl rfl k
  have el : (rowDot w h).lhsIdx j ((contrEquiv1 (rowDot w h) 512 rfl rfl).symm k) = ix2 k (j 0) := by
    funext a; apply Fin.ext
    match a with
    | ⟨0, _⟩ => exact hk
    | ⟨1, _⟩ => rfl
  have er : (rowDot w h).rhsIdx j ((contrEquiv1 (rowDot w h) 512 rfl rfl).symm k) = ix2 k (j 1) := by
    funext a; apply Fin.ext
    match a with
    | ⟨0, _⟩ => exact hk
    | ⟨1, _⟩ => rfl
  rw [el, er]
  rfl

theorem pay1_apply (x : Tile Ideal 512 512) (e : Tile Ideal 512 256) (j : (⟨2, ![512, 256]⟩ : Shape).Idx) :
    k0_pay1 x e j = ∑ k : Fin 512, x (ix2 k (j 0)) * e (ix2 k (j 1)) := by
  unfold k0_pay1
  simp only [shapeCast_self]
  exact rowDot_apply 256 _ x e j
theorem pay8_apply (x : Tile Ideal 512 512) (e : Tile Ideal 512 128) (j : (⟨2, ![512, 128]⟩ : Shape).Idx) :
    k0_pay8 x e j = ∑ k : Fin 512, x (ix2 k (j 0)) * e (ix2 k (j 1)) := by
  unfold k0_pay8
  simp only [shapeCast_self]
  exact rowDot_apply 128 _ x e j

theorem payP_apply (k : Fin 5) (x : Tile Ideal 512 512) (e : Tile Ideal 512 (W k)) (j : (⟨2, ![512, W k]⟩ : Shape).Idx) :
    payP k x e j = ∑ l : Fin 512, x (ix2 l (j 0)) * e (ix2 l (j 1)) := by
  match k with
  | 0 => exact pay1_apply x e j
  | 1 => exact pay1_apply x e j
  | 2 => exact pay1_apply x e j
  | 3 => exact pay8_apply x e j
  | 4 => exact pay8_apply x e j

theorem payO_apply (k : Fin 5) (a b : Tile Ideal 256 (W k)) (j : (⟨2, ![256, W k]⟩ : Shape).Idx) : payO k a b j = (a j + b j : EReal) := by
  match k with
  | 0 => rfl
  | 1 => rfl
  | 2 => rfl
  | 3 => rfl
  | 4 => rfl
theorem payR_eq (k : Fin 5) (a b : Tile Ideal 256 (W k)) : payR k a b = payO k a b := by
  match k with
  | 0 => show k0_pay4 a b = k0_pay3 a b; unfold k0_pay4; exact shapeCast_self _ _
  | 1 => show k0_pay4 a b = k0_pay3 a b; unfold k0_pay4; exact shapeCast_self _ _
  | 2 => show k0_pay4 a b = k0_pay3 a b; unfold k0_pay4; exact shapeCast_self _ _
  | 3 => show k0_pay13 a b = k0_pay12 a b; unfold k0_pay13; exact shapeCast_self _ _
  | 4 => show k0_pay13 a b = k0_pay12 a b; unfold k0_pay13; exact shapeCast_self _ _

/-! ### One device's part -/

/-- Element `(r, q)` of the product of a device's two blocks. -/
def mac (x : Tile Ideal 512 512) (d : Tile Ideal 512 2048) (r : Fin 512) (q : Fin 2048) : EReal := ∑ k : Fin 512, (x (ix2 k r) * d (ix2 k q) : EReal)

theorem mac_congr (x : Tile Ideal 512 512) (d : Tile Ideal 512 2048) {r r' : Fin 512} {q q' : Fin 2048} (hr : r.val = r'.val) (hq : q.val = q'.val) :
    mac x d r q = mac x d r' q' := by rw [Fin.ext hr, Fin.ext hq]

/-- A tile of a half of a product of columns, read at an element that lies at row `r` and column `q` of the whole product. -/
theorem half_apply {w o u : ℕ} (ho : o ≤ 256) (hd) (pay : Tile Ideal 512 512 → Tile Ideal 512 w → Tile Ideal 512 w)
    (hp : ∀ x e j, pay x e j = ∑ k : Fin 512, (x (ix2 k (j 0)) * e (ix2 k (j 1)) : EReal)) (x : Tile Ideal 512 512) (d : Tile Ideal 512 2048)
    (j : (⟨2, ![256, w]⟩ : Shape).Idx) (r : Fin 512) (q : Fin 2048) (hr : o + (j 0).val = r.val) (hq : u + (j 1).val = q.val) :
    rows o ho (prod w ![0, u] hd pay x d) j = mac x d r q := by
  unfold rows prod
  rw [hp]
  unfold mac
  refine Finset.sum_congr rfl fun k _ => ?_
  congr 1
  · congr 1
    funext a; apply Fin.ext
    match a with
    | ⟨0, _⟩ => rfl
    | ⟨1, _⟩ => show o + 1 * (j 0).val = r.val; omega
  · congr 1
    funext a; apply Fin.ext
    match a with
    | ⟨0, _⟩ => show 0 + 1 * k.val = k.val; omega
    | ⟨1, _⟩ => show u + 1 * (0 + 1 * (j 1).val) = q.val; omega

/-! ### Every tile -/

section Tiles
variable (X : Dev nD → Tile Ideal 512 512) (D : Dev nD → Tile Ideal 512 2048) (c : Dev nD)

/-- The row of the whole product that row `i` of a device's result is. -/
def rowAt (i : Fin 256) : Fin 512 := ⟨kr c + i.val, by have := kr_le c; omega⟩

/-- The result a device should hold. -/
def total : Tile Ideal 256 2048 := fun i => (mac (X c) (D c) (rowAt c (i 0)) (i 1) + mac (X (xpeer c)) (D (xpeer c)) (rowAt c (i 0)) (i 1) : EReal)

theorem sr_xpeer : sr (xpeer c) = kr c := by revert c; decide
theorem col_xpeer : col (xpeer c) = col c := by revert c; decide
theorem oc_xpeer : oc (xpeer c) = oc c := by revert c; decide
theorem col_ypeer : col (ypeer c) = oc c := by revert c; decide
theorem kr_ypeer : kr (ypeer c) = kr c := by revert c; decide
theorem xpeer_ypeer : xpeer (ypeer c) = ypeer (xpeer c) := by revert c; decide

theorem tB_apply (k : Fin 5) (j : (⟨2, ![256, W k]⟩ : Shape).Idx) (r : Fin 512) (q : Fin 2048) (hr : kr c + (j 0).val = r.val) (hq : col c + OFF k + (j 1).val = q.val) :
    tB X D c k j = (mac (X c) (D c) r q + mac (X (xpeer c)) (D (xpeer c)) r q : EReal) := by
  unfold tB PT
  rw [payO_apply, half_apply _ _ _ (payP_apply k) _ _ j r q hr hq,
    half_apply _ _ _ (payP_apply k) _ _ j r q (by rw [sr_xpeer]; exact hr) (by rw [col_xpeer]; exact hq)]

theorem tE_apply (j : (⟨2, ![256, 128]⟩ : Shape).Idx) (r : Fin 512) (q : Fin 2048) (hr : kr c + (j 0).val = r.val) (hq : oc c + 896 + (j 1).val = q.val) :
    tE X D c j = (mac (X c) (D c) r q + mac (X (xpeer c)) (D (xpeer c)) r q : EReal) := by
  unfold tE PE
  rw [show ∀ a b : Tile Ideal 256 128, k0_pay12 a b j = (a j + b j : EReal) from fun _ _ => rfl, half_apply _ _ _ pay8_apply _ _ j r q hr hq, half_apply _ _ _ pay8_apply _ _ j r q (by rw [sr_xpeer]; exact hr) (by rw [oc_xpeer]; exact hq)]

theorem val_y_eq (k : Fin 4) : val X D c (.y k) = tB X D c k.castSucc := payR_eq _ _ _

/-- Where neighbours along the second axis hold the same blocks, a device's result is the sum over the first axis. -/
theorem outFrom_total (hX : X (ypeer c) = X c) (hD : D (ypeer c) = D c) (hX' : X (ypeer (xpeer c)) = X (xpeer c)) (hD' : D (ypeer (xpeer c)) = D (xpeer c))
    (f : Tile Ideal 256 2048) : outFrom X D c f = total X D c := by
  refine outFrom_spec X D c f _ (fun k i h hq => ?_) (fun k i h hq => ?_) (fun i h hq => ?_)
  · exact tB_apply X D c k _ _ _ rfl (by show col c + OFF k + ((i 1).val - (col c + OFF k)) = (i 1).val; omega)
  · rw [val_y_eq, tB_apply X D (ypeer c) k.castSucc _ (rowAt c (i 0)) (i 1) (by rw [kr_ypeer]; rfl)
      (by rw [col_ypeer]; show oc c + OFF k.castSucc + ((i 1).val - (oc c + OFF k.castSucc)) = (i 1).val; omega), xpeer_ypeer, hX, hD, hX', hD']
    rfl
  · exact tE_apply X D c _ _ _ rfl (by show oc c + 896 + ((i 1).val - (oc c + 896)) = (i 1).val; omega)

end Tiles

end Cert.TwoAxis

end
-- ==== Proof.Algebra.lean ====
/-
The algebraic claim: a device's result is its block of rows of the product of the transposed first array with the second,
because the sum over the whole contracted dimension is the sum over its two blocks.
-/
module

public import proofs.«01_k».proof.Proof.Final
public import proofs.«01_k».proof.Proof.Value
public import proofs.«01_k».proof.Defs
public import proofs.«01_k».proof.Proof.Gen.ReferenceIdeal.Run
public import Idealize.ShloMosaic.Lib.StackMember

@[expose] public section

noncomputable section

namespace Cert.TwoAxis

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StackMember
open scoped BigOperators

section
variable (A : Tile Ideal 1024 512) (B : Tile Ideal 1024 2048)

/-- The blocks of the two arrays a device is given. -/
abbrev aAt (c : Dev nD) : Tile Ideal 512 512 := Layout.blockN ⟨2, ![512, 512]⟩ ⟨2, ![1024, 512]⟩ (Layout.meshBlock [2, 2] ![[0], []] c) A
abbrev bAt (c : Dev nD) : Tile Ideal 512 2048 := Layout.blockN ⟨2, ![512, 2048]⟩ ⟨2, ![1024, 2048]⟩ (Layout.meshBlock [2, 2] ![[0], []] c) B

/-- The reference's product. -/
abbrev refOut : Tile Ideal 512 2048 :=
  Host.dotGeneral (φ₁ := .f32) (φ₂ := .f32) Cert.ReferenceIdeal.dot_S512x1024_S1024x2048_S512x2048_1_0_0_1_n_n none
    (transpose Cert.ReferenceIdeal.S512x1024 [1, 0] A Cert.ReferenceIdeal.Gen.transposes_S1024x512_S512x1024_1_0 : FVec Ideal ⟨2, ![512, 1024]⟩ .f32)
    (B : FVec Ideal ⟨2, ![1024, 2048]⟩ .f32)

theorem refOut_apply (r : Fin 512) (q : Fin 2048) : refOut A B (ix2 r q) = ∑ k : Fin 1024, (A (ix2 k r) * B (ix2 k q) : EReal) := by
  refine (dotGeneral_plain_apply (m := 512) (n := 2048) (k := 1024) (φ₁ := .f32) (φ₂ := .f32) none
    (transpose Cert.ReferenceIdeal.S512x1024 [1, 0] A Cert.ReferenceIdeal.Gen.transposes_S1024x512_S512x1024_1_0) B r q).trans ?_
  refine Finset.sum_congr rfl fun k _ => ?_
  rw [transpose_apply [1, 0] A _ (ix2 r k) (ix2 k r) (fun b => by fin_cases b <;> rfl)]

/-- A device's part of the product, over the whole arrays: the contracted coordinate starts at its block. -/
theorem mac_block (c : Dev nD) (u : ℕ) (hu : u * 512 + 512 ≤ 1024) (hc : c.val / 2 = u) (r : Fin 512) (q : Fin 2048) :
    mac (aAt A c) (bAt B c) r q = ∑ k : Fin 512, (A (ix2 ⟨u * 512 + k.val, by omega⟩ r) * B (ix2 ⟨u * 512 + k.val, by omega⟩ q) : EReal) := by
  unfold mac
  refine Finset.sum_congr rfl fun k _ => ?_
  have hm : Layout.meshLin [2, 2] c.val [0] = u := by subst hc; clear hu; revert c; decide
  congr 1
  · show A _ = A _
    congr 1
    funext a; apply Fin.ext
    match a with
    | ⟨0, _⟩ => show Layout.meshLin [2, 2] c.val [0] * 512 + k.val = u * 512 + k.val; rw [hm]
    | ⟨1, _⟩ => show 0 * 512 + r.val = r.val; omega
  · show B _ = B _
    congr 1
    funext a; apply Fin.ext
    match a with
    | ⟨0, _⟩ => show Layout.meshLin [2, 2] c.val [0] * 512 + k.val = u * 512 + k.val; rw [hm]
    | ⟨1, _⟩ => show 0 * 2048 + q.val = q.val; omega

/-- The whole contracted dimension is its two blocks. -/
theorem sum_blocks (f : Fin 1024 → EReal) :
    ∑ k : Fin 1024, f k = (∑ k : Fin 512, f ⟨0 * 512 + k.val, by omega⟩) + ∑ k : Fin 512, f ⟨1 * 512 + k.val, by omega⟩ := by
  refine (Fin.sum_univ_add (a := 512) (b := 512) f).trans ?_
  exact congrArg₂ (· + ·) (Finset.sum_congr rfl fun k _ => congrArg f (Fin.ext (by show k.val = 0 * 512 + k.val; omega)))
    (Finset.sum_congr rfl fun k _ => congrArg f (Fin.ext (by show 512 + k.val = 1 * 512 + k.val; omega)))

/-- The sum over the first axis of the mesh is the reference's product at the device's rows. -/
theorem total_eq (c : Dev nD) :
    total (aAt A) (bAt B) c = Layout.blockN ⟨2, ![256, 2048]⟩ ⟨2, ![512, 2048]⟩ (Layout.meshBlock [2, 2] ![[0], []] c) (refOut A B) := by
  funext i
  have hi : (Layout.blockN ⟨2, ![256, 2048]⟩ ⟨2, ![512, 2048]⟩ (Layout.meshBlock [2, 2] ![[0], []] c) (refOut A B)) i = refOut A B (ix2 (rowAt c (i 0)) (i 1)) := by
    refine congrArg (refOut A B) ?_
    funext a; apply Fin.ext
    have hm : Layout.meshLin [2, 2] c.val [0] * 256 = kr c := by clear i a; revert c; decide
    match a with
    | ⟨0, _⟩ => show Layout.meshLin [2, 2] c.val [0] * 256 + (i 0).val = kr c + (i 0).val; rw [hm]
    | ⟨1, _⟩ => show 0 * 2048 + (i 1).val = (i 1).val; rw [Nat.zero_mul, Nat.zero_add]
  refine Eq.trans ?_ (((refOut_apply A B (rowAt c (i 0)) (i 1)).trans (sum_blocks _)).symm.trans hi.symm)
  show (mac (aAt A c) (bAt B c) (rowAt c (i 0)) (i 1) + mac (aAt A (xpeer c)) (bAt B (xpeer c)) (rowAt c (i 0)) (i 1) : EReal) = _
  have h : (c.val / 2 = 0 ∧ (xpeer c).val / 2 = 1) ∨ (c.val / 2 = 1 ∧ (xpeer c).val / 2 = 0) := by clear hi i; revert c; decide
  obtain ⟨h0, h1⟩ | ⟨h0, h1⟩ := h
  · exact congrArg₂ (· + ·) (mac_block A B c 0 (by decide) h0 _ _) (mac_block A B (xpeer c) 1 (by decide) h1 _ _)
  · exact (congrArg₂ (· + ·) (mac_block A B c 1 (by decide) h0 _ _) (mac_block A B (xpeer c) 0 (by decide) h1 _ _)).trans (add_comm _ _)

/-- Devices that differ along the second axis only hold the same blocks. -/
theorem block_ypeer (c : Dev nD) : aAt A (ypeer c) = aAt A c ∧ bAt B (ypeer c) = bAt B c := by
  have hm : Layout.meshLin [2, 2] (ypeer c).val [0] = Layout.meshLin [2, 2] c.val [0] := by revert c; decide
  constructor
  · funext i
    show A _ = A _
    congr 1
    funext a; apply Fin.ext
    match a with
    | ⟨0, _⟩ => show Layout.meshLin [2, 2] (ypeer c).val [0] * 512 + (i 0).val = Layout.meshLin [2, 2] c.val [0] * 512 + (i 0).val; rw [hm]
    | ⟨1, _⟩ => rfl
  · funext i
    show B _ = B _
    congr 1
    funext a; apply Fin.ext
    match a with
    | ⟨0, _⟩ => show Layout.meshLin [2, 2] (ypeer c).val [0] * 512 + (i 0).val = Layout.meshLin [2, 2] c.val [0] * 512 + (i 0).val; rw [hm]
    | ⟨1, _⟩ => rfl

/-- What a device's result is when it is given its blocks of the two arrays. -/
theorem outAt_eq (m : (ℓ : Loc nD τ sig) → Buf (Elt Ideal) ℓ) (hX : xIn m = aAt A) (hD : dIn m = bAt B) (c : Dev nD) :
    outAt m c = Layout.blockN ⟨2, ![256, 2048]⟩ ⟨2, ![512, 2048]⟩ (Layout.meshBlock [2, 2] ![[0], []] c) (refOut A B) := by
  unfold outAt
  rw [hX, hD, outFrom_total _ _ c (block_ypeer A B c).1 (block_ypeer A B c).2 (block_ypeer A B (xpeer c)).1 (block_ypeer A B (xpeer c)).2, total_eq]

end

theorem algebra : Cert.algebraic_KernelIdeal_ReferenceIdeal := by
  intro m ρ m' ρ' _ hm
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run defs _ _).mono (fun _ h c => ⟨(h.1 c).1.trans ?_, (h.1 c).2⟩) (run_arrays (F := Ideal) m ρ)
    exact outAt_eq _ _ m (funext fun c => (xIn_eq m c).trans (hm c).1) (funext fun c => (dIn_eq m c).trans (hm c).2) c
  · exact (θ_run Cert.ReferenceIdeal.defs _ _).mono (fun _ h => h 0) (Cert.ReferenceIdeal.Value.run (F := Ideal) m' ρ')

end Cert.TwoAxis

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.TwoAxis.frame_kernel, Cert.TwoAxis.frame_ideal, Cert.TwoAxis.frame_reference, trivial, Cert.TwoAxis.algebra⟩

end Cert.Proof

end
